-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x2048x2048 : Shape := ⟨3, ![2, 2048, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S_ : Shape := ⟨0, ![]⟩
abbrev S2048x4096 : Shape := ⟨2, ![2048, 4096]⟩
abbrev S4096 : Shape := ⟨1, ![4096]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  slices_S2048x6144_S2048x4096_0_0 : S2048x6144.Slices ![0, 0] S2048x4096
  bcast_S_S2048x4096 : S_.BroadcastsInDim S2048x4096 (![] : Fin 0 → Fin S2048x4096.rank)
  reducesTo_S2048x4096_S_d0_1 : S2048x4096.ReducesTo [0, 1] S_
  slices_S6144_S4096_0 : S6144.Slices ![0] S4096
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x2048 .f32) (main_arg1 : FVec F S2048x6144 .f32) (main_arg2 : FVec F S6144 .f32) (main_arg3 : FVec F S2048x2048 .f32) (main_arg4 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x4096 .f32 := (extractStridedSlice S2048x4096 ![0, 0] · slices_S2048x6144_S2048x4096_0_0) main_arg1
  let main_v5 : FVec F S2048x4096 .f32 := Host.absf main_v4
  let main_cst_0 : FVec F S_ .f32 := constant S_ .f32 0x7F800000#32
  let main_v6 : FVec F S2048x4096 .f32 := broadcastInDim S2048x4096 ![] bcast_S_S2048x4096 main_cst_0
  let main_v7 : IVec S2048x4096 1 := cmpf .olt main_v5 main_v6
  let main_c_1 : IVec S_ 1 := constantI S_ 1 1#1
  let main_v8 : IVec S_ 1 := (fun x v => Host.reduce IntOp.andi x v reducesTo_S2048x4096_S_d0_1 h_S_) main_v7 main_c_1
  let main_v9 : IVec S_ 1 := andi main_v3 main_v8
  let main_v10 : FVec F S4096 .f32 := (extractStridedSlice S4096 ![0] · slices_S6144_S4096_0) main_arg2
  let main_v11 : FVec F S4096 .f32 := Host.absf main_v10
  let main_cst_2 : FVec F S_ .f32 := constant S_ .f32 0x7F800000#32
  let main_v12 : FVec F S4096 .f32 := broadcastInDim S4096 ![] bcast_S_S4096 main_cst_2
  let main_v13 : IVec S4096 1 := cmpf .olt main_v11 main_v12
  let main_c_3 : IVec S_ 1 := constantI S_ 1 1#1
  let main_v14 : IVec S_ 1 := (fun x v => Host.reduce IntOp.andi x v reducesTo_S4096_S_d0 h_S_) main_v13 main_c_3
  let main_v15 : IVec S_ 1 := andi main_v9 main_v14
  main_v15
-- ==== Kernel.lean ====
abbrev S2x2048x2048 : Shape := ⟨3, ![2, 2048, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S4096x2048 : Shape := ⟨2, ![4096, 2048]⟩
abbrev S1x6144 : Shape := ⟨2, ![1, 6144]⟩
abbrev S2x48x2048x128 : Shape := ⟨4, ![2, 48, 2048, 128]⟩
abbrev S2048x512 : Shape := ⟨2, ![2048, 512]⟩
abbrev S1x512 : Shape := ⟨2, ![1, 512]⟩
abbrev S1x4x2048x128 : Shape := ⟨4, ![1, 4, 2048, 128]⟩
abbrev S2048x128 : Shape := ⟨2, ![2048, 128]⟩
abbrev S1x1x2048x128 : Shape := ⟨4, ![1, 1, 2048, 128]⟩
abbrev S512x512 : Shape := ⟨2, ![512, 512]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x2048 : Shape := ⟨2, ![1, 2048]⟩
abbrev S2x1x2048x2048 : Shape := ⟨4, ![2, 1, 2048, 2048]⟩
abbrev S1x1x2048x512 : Shape := ⟨4, ![1, 1, 2048, 512]⟩

abbrev nBuf : Space → Nat
  | .hbm => 12
  | .vmem => 24
  | .smem => 0
  | _ => 0

abbrev bufTy : (tb : Table) → Fin (tcTables nBuf tb) → BufTy
  | .hbm, ⟨0, _⟩ => ⟨S2x2048x2048, .f32⟩
  | .hbm, ⟨1, _⟩ => ⟨S2048x6144, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S4096x2048, .f32⟩
  | .hbm, ⟨6, _⟩ => ⟨S1x6144, .f32⟩
  | .hbm, ⟨7, _⟩ => ⟨S2x48x2048x128, .f32⟩
  | .hbm, ⟨8, _⟩ => ⟨S4096x2048, .f32⟩
  | .hbm, ⟨9, _⟩ => ⟨S1x2048, .f32⟩
  | .hbm, ⟨10, _⟩ => ⟨S2x1x2048x2048, .f32⟩
  | .hbm, ⟨11, _⟩ => ⟨S2x2048x2048, .f32⟩
  | .local _ .vmem, ⟨0, _⟩ => ⟨S2048x2048, .f32⟩
  | .local _ .vmem, ⟨1, _⟩ => ⟨S2048x2048, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1x4x2048x128, .f32⟩
  | .local _ .vmem, ⟨7, _⟩ => ⟨S1x4x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x1x2048x128, .f32⟩
  | .local _ .vmem, ⟨11, _⟩ => ⟨S1x1x2048x128, .f32⟩
  | .local _ .vmem, ⟨12, _⟩ => ⟨S1x1x2048x128, .f32⟩
  | .local _ .vmem, ⟨13, _⟩ => ⟨S1x1x2048x128, .f32⟩
  | .local _ .vmem, ⟨14, _⟩ => ⟨S2048x128, .f32⟩
  | .local _ .vmem, ⟨15, _⟩ => ⟨S2048x128, .f32⟩
  | .local _ .vmem, ⟨16, _⟩ => ⟨S2048x2048, .f32⟩
  | .local _ .vmem, ⟨17, _⟩ => ⟨S2048x2048, .f32⟩
  | .local _ .vmem, ⟨18, _⟩ => ⟨S2048x512, .f32⟩
  | .local _ .vmem, ⟨19, _⟩ => ⟨S2048x512, .f32⟩
  | .local _ .vmem, ⟨20, _⟩ => ⟨S1x512, .f32⟩
  | .local _ .vmem, ⟨21, _⟩ => ⟨S1x512, .f32⟩
  | .local _ .vmem, ⟨22, _⟩ => ⟨S1x1x2048x512, .f32⟩
  | .local _ .vmem, ⟨23, _⟩ => ⟨S1x1x2048x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1x2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S2x2048x2048 : Shape := ⟨3, ![2, 2048, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S2x2048x6144 : Shape := ⟨3, ![2, 2048, 6144]⟩
abbrev S1x1x6144 : Shape := ⟨3, ![1, 1, 6144]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S1x1x2048 : Shape := ⟨3, ![1, 1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x6144, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S2x2048x6144, .f32⟩
  | .hbm, ⟨6, _⟩ => ⟨S1x1x6144, .f32⟩
  | .hbm, ⟨7, _⟩ => ⟨S2x2048x6144, .f32⟩
  | .hbm, ⟨8, _⟩ => ⟨S2x2048x6144, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .hbm, ⟨12, _⟩ => ⟨S2x2048x16x128, .f32⟩
  | .hbm, ⟨13, _⟩ => ⟨S2x16x2048x128, .f32⟩
  | .hbm, ⟨14, _⟩ => ⟨S2x2048x16x128, .f32⟩
  | .hbm, ⟨15, _⟩ => ⟨S2x16x2048x128, .f32⟩
  | .hbm, ⟨16, _⟩ => ⟨S2x2048x16x128, .f32⟩
  | .hbm, ⟨17, _⟩ => ⟨S2x16x2048x128, .f32⟩
  | .hbm, ⟨18, _⟩ => ⟨S2x16x2048x2048, .f32⟩
  | .hbm, ⟨19, _⟩ => ⟨S_, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .i1⟩
  | .hbm, ⟨24, _⟩ => ⟨S2048x2048, .i1⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .i1⟩
  | .hbm, ⟨32, _⟩ => ⟨S2048x2048, .i1⟩
  | .hbm, ⟨33, _⟩ => ⟨S2048x2048, .i1⟩
  | .hbm, ⟨34, _⟩ => ⟨S1x1x2048x2048, .i1⟩
  | .hbm, ⟨35, _⟩ => ⟨S_, .f32⟩
  | .hbm, ⟨36, _⟩ => ⟨S2x16x2048x2048, .i1⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S_, .f32⟩
  | .hbm, ⟨42, _⟩ => ⟨S2x16x2048, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x2048, .f32⟩
  | .hbm, ⟨48, _⟩ => ⟨S_, .f32⟩
  | .hbm, ⟨49, _⟩ => ⟨S2x16x2048, .f32⟩
  | .hbm, ⟨50, _⟩ => ⟨S2x16x2048x1, .f32⟩
  | .hbm, ⟨51, _⟩ => ⟨S2x16x2048x2048, .f32⟩
  | .hbm, ⟨52, _⟩ => ⟨S2x16x2048x2048, .f32⟩
  | .hbm, ⟨53, _⟩ => ⟨S2x16x2048x128, .f32⟩
  | .hbm, ⟨54, _⟩ => ⟨S2x2048x16x128, .f32⟩
  | .hbm, ⟨55, _⟩ => ⟨S2x2048x2048, .f32⟩
  | .hbm, ⟨56, _⟩ => ⟨S2x2048x2048, .f32⟩
  | .hbm, ⟨57, _⟩ => ⟨S1x1x2048, .f32⟩
  | .hbm, ⟨58, _⟩ => ⟨S2x2048x2048, .f32⟩
  | .hbm, ⟨59, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

namespace Cert.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the three kernels in order ends with the result array at the contents
    folded through the segments (`W6`), and with the argument arrays unchanged. -/
theorem run : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.AttnRun

end
-- ==== Proof.Consts.lean ====
module

public import proofs.«01_k».proof.KernelIdeal
public import Idealize.ShloMosaic.Lib.Pointwise
public import Idealize.ShloMosaic.Lib.WordCmp

@[expose] public section

noncomputable section

namespace Cert.AttnConsts

open Idealize.ShloMosaic

/-- The number the reference takes the root of is 128. -/
theorem pat_128 : Ideal.ofBits .f32 0x43000000#32 = ((128 : ℝ) : EReal) := by
  simp [Ideal.ofBits, Ideal.ieee, -EReal.coe_mul]; norm_num

/-- The pattern both programs start a maximum from is minus infinity. -/
theorem pat_bot : Ideal.ofBits .f32 0xFF800000#32 = (⊥ : EReal) := by
  simp [Ideal.ofBits, Ideal.ieee]

/-- The pattern the precondition compares against is plus infinity. -/
theorem pat_top : Ideal.ofBits .f32 0x7F800000#32 = (⊤ : EReal) := by
  simp [Ideal.ofBits, Ideal.ieee]

/-- The kernel's factor on the queries, as a real number: one over the root of 128, over `log 2`. -/
def scale : ℝ := (Real.sqrt 128)⁻¹ * (Real.log 2)⁻¹

/-- The named factor on the queries is that real number. -/
theorem named_scale :
    Named.named (F := Ideal) Cert.KernelIdeal.κ "scale_log2e" (φ := .f32) 0x3E0293EE#32 = ((scale : ℝ) : EReal) :=
  IdealRules.named_const.ideal_named_scalar _ _ _ _ rfl

/-- The named mask is minus infinity. -/
theorem named_mask : Named.named (F := Ideal) Cert.KernelIdeal.κ "mask" (φ := .f32) 0xF149F2CA#32 = (⊥ : EReal) :=
  IdealRules.named_const.ideal_named_scalar _ _ _ _ rfl

/-- The reference divides the scores by the root of 128. -/
theorem sqrt_128 : Ideal.sqrt (Ideal.ofBits .f32 0x43000000#32) = ((Real.sqrt 128 : ℝ) : EReal) := by
  rw [pat_128, Ideal.sqrt_coe, if_neg (by norm_num)]

/-- A selection on a signed comparison of two small numbers' words is a case split on the numbers. -/
theorem select_sle {n : ℕ} (hn : n ≤ 2048) (i j : Fin n) (x y : EReal) :
    Scalar.select (IntOp.cmpi .sle (BitVec.ofNat 32 i.val) (BitVec.ofNat 32 j.val)) x y = if i ≤ j then x else y := by
  by_cases hc : i ≤ j
  · have h1 := (WordCmp.cmpi_sle_ofNat_eq_one_iff (w := 32) (a := i.val) (b := j.val) (by omega) (by omega)).mpr hc
    rw [h1, if_pos hc]
    rfl
  · have h0 := (WordCmp.cmpi_sle_ofNat_eq_zero_iff (w := 32) (a := i.val) (b := j.val) (by omega) (by omega)).mpr hc
    rw [h0, if_neg hc]
    rfl

/-- The same for the reference's way of writing it: row at least column, through a bit array. -/
theorem select_sge {n : ℕ} (hn : n ≤ 2048) (i j : Fin n) (x y : EReal) :
    Scalar.select (Scalar.select (IntOp.cmpi .sge (IntOp.addi (BitVec.ofNat 32 i.val) 0#32) (BitVec.ofNat 32 j.val)) 1#1 0#1) x y
      = if j ≤ i then x else y := by
  have e : IntOp.addi (BitVec.ofNat 32 i.val) 0#32 = BitVec.ofNat 32 i.val := by
    show _ + 0#32 = _
    exact BitVec.add_zero _
  have h := WordCmp.cmpi_sge_ofNat_eq_one_iff (w := 32) (a := i.val) (b := j.val) (by omega) (by omega)
  rw [e]
  by_cases hc : j ≤ i
  · have h1 := h.mpr hc
    rw [h1, if_pos hc]
    rfl
  · have h0 := (WordCmp.cmpi_sge_ofNat_eq_zero_iff (w := 32) (a := i.val) (b := j.val) (by omega) (by omega)).mpr hc
    rw [h0, if_neg hc]
    rfl

end Cert.AttnConsts

end
-- ==== Proof.Softmax.lean ====
module

public import Idealize.ShloMosaic.PureOps.Ideal
public import Mathlib.Analysis.SpecialFunctions.Pow.Real

@[expose] public section

noncomputable section

namespace Cert.AttnSoftmax

open Idealize.ShloMosaic

/-- A finite sum of real numbers is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a finite sum of extended reals, whatever the addends are. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm,
      EReal.left_distrib_of_nonneg_of_ne_top (EReal.coe_nonneg.mpr hc) (EReal.coe_ne_top c), mul_comm, mul_comm (c : EReal)]

/-- The sum over the first `n` blocks of 512 columns is the sum over all 2048 columns, of a function that is
    zero on the columns of the later blocks. -/
theorem sum_blocks (n : ℕ) (hn : n ≤ 4) (f : Fin 2048 → EReal) (hf : ∀ s : Fin 2048, n * 512 ≤ s.val → f s = 0) :
    ∑ j : Fin n, ∑ k : Fin 512, f ⟨512 * j.val + k.val, by omega⟩ = ∑ s, f s := by
  let g : ℕ → EReal := fun i => if h : i < 2048 then f ⟨i, h⟩ else 0
  have e1 : ∑ j : Fin n, ∑ k : Fin 512, f ⟨512 * j.val + k.val, by omega⟩ = ∑ p : Fin n × Fin 512, g (512 * p.1.val + p.2.val) := by
    rw [Fintype.sum_prod_type]
    refine Finset.sum_congr rfl fun j _ => Finset.sum_congr rfl fun k _ => ?_
    have h : 512 * j.val + k.val < 2048 := by omega
    show _ = dite _ _ _
    rw [dif_pos h]
  have e2 : ∑ p : Fin n × Fin 512, g (512 * p.1.val + p.2.val) = ∑ i : Fin (n * 512), g i.val :=
    Fintype.sum_equiv finProdFinEquiv _ _ fun p => by
      congr 1
      show _ = p.2.val + 512 * p.1.val
      omega
  have e3 : ∑ s, f s = ∑ i : Fin 2048, g i.val := Finset.sum_congr rfl fun i _ => by
    show _ = dite _ _ _
    rw [dif_pos i.isLt]
  rw [e1, e2, e3, Fin.sum_univ_eq_sum_range (fun i => g i), Fin.sum_univ_eq_sum_range (fun i => g i)]
  refine Finset.sum_subset (fun i hi => ?_) fun i hi hi' => ?_
  · rw [Finset.mem_range] at hi ⊢; omega
  · rw [Finset.mem_range] at hi hi'
    show dite _ _ _ = _
    rw [dif_pos hi]
    exact hf _ (by show n * 512 ≤ i; omega)

/-- Column `s`'s score as row `t` sees it: the real score up to the diagonal, minus infinity past it. -/
def masked (σ : Fin 2048 → ℝ) (t : Fin 2048) (s : Fin 2048) : EReal := if s ≤ t then (σ s : EReal) else ⊥

/-- One row of attention over its masked scores as the reference computes it: each weight is divided by the
    weights' sum, then the weighted values are added up. -/
def refRow (σ : Fin 2048 → ℝ) (t : Fin 2048) (v : Fin 2048 → EReal) (M : EReal) : EReal :=
  ∑ s, Ideal.div (Ideal.exp (masked σ t s - M)) (∑ s', Ideal.exp (masked σ t s' - M)) * v s

/-- One row of attention over `n` blocks of 512 columns as the kernel computes it: powers of two of the
    scores less `M`, the weighted values and the weights added up block by block, and one division at the end. -/
def blkRow {n : ℕ} (A V : Fin n → Fin 512 → EReal) (M : EReal) : EReal :=
  (∑ j, ∑ k, Ideal.exp2 (A j k - M) * V j k) * Ideal.div 1 (∑ k, ∑ j, Ideal.exp2 (A j k - M))

/-- Row `t` sees a column whose score is the largest of those it sees. -/
theorem exists_top (σ : Fin 2048 → ℝ) (t : Fin 2048) : ∃ s₀ : Fin 2048, s₀ ≤ t ∧ ∀ s ≤ t, σ s ≤ σ s₀ := by
  obtain ⟨s₀, h, h'⟩ := Finset.exists_max_image (Finset.univ.filter fun s : Fin 2048 => s ≤ t) σ ⟨t, by simp⟩
  exact ⟨s₀, by simpa using h, fun s hs => h' s (by simpa using hs)⟩

/-- The reference's weight before the division: a real exponential on the columns the row sees, zero elsewhere. -/
theorem exp_masked (σ : Fin 2048 → ℝ) (t s : Fin 2048) (μ : ℝ) :
    Ideal.exp (masked σ t s - (μ : EReal)) = ((if s ≤ t then Real.exp (σ s - μ) else 0 : ℝ) : EReal) := by
  unfold masked
  by_cases h : s ≤ t
  · rw [if_pos h, if_pos h, ← EReal.coe_sub]; rfl
  · rw [if_neg h, if_neg h, EReal.bot_sub]; rfl

/-- The kernel's weight is the reference's: a power of two of a score divided by `log 2` is an exponential. -/
theorem exp2_masked (σ : Fin 2048 → ℝ) (t s : Fin 2048) (μ : ℝ) :
    Ideal.exp2 ((if s ≤ t then ((σ s * (Real.log 2)⁻¹ : ℝ) : EReal) else ⊥) - ((μ * (Real.log 2)⁻¹ : ℝ) : EReal))
      = ((if s ≤ t then Real.exp (σ s - μ) else 0 : ℝ) : EReal) := by
  by_cases h : s ≤ t
  · rw [if_pos h, if_pos h, ← EReal.coe_sub]
    show ((Real.rpow 2 _ : ℝ) : EReal) = _
    congr 1
    show (2 : ℝ) ^ (_ : ℝ) = _
    rw [Real.rpow_def_of_pos two_pos]
    congr 1
    have : Real.log 2 ≠ 0 := (Real.log_pos one_lt_two).ne'
    field_simp
  · rw [if_neg h, if_neg h, EReal.bot_sub]; rfl

/-- The kernel's row over the blocks up to the row's own is the reference's row over all the columns: `A` is the
    scores over `log 2`, masked past the diagonal, and `M`, `M'` are the largest entries of the two rows of scores. -/
theorem blkRow_eq (n : ℕ) (hn : n ≤ 4) (σ : Fin 2048 → ℝ) (t : Fin 2048) (ht : t.val < n * 512)
    (v : Fin 2048 → EReal) (A V : Fin n → Fin 512 → EReal) (M M' : EReal)
    (hA : ∀ j k, A j k = if (⟨512 * j.val + k.val, by omega⟩ : Fin 2048) ≤ t
      then ((σ ⟨512 * j.val + k.val, by omega⟩ * (Real.log 2)⁻¹ : ℝ) : EReal) else ⊥)
    (hV : ∀ j k, V j k = v ⟨512 * j.val + k.val, by omega⟩)
    (hM : ∀ j k, A j k ≤ M) (hM₁ : ∃ j k, M = A j k)
    (hM' : ∀ s, masked σ t s ≤ M') (hM'₁ : ∃ s, M' = masked σ t s) :
    blkRow A V M = refRow σ t v M' := by
  obtain ⟨s₀, hs₀, hmax⟩ := exists_top σ t
  have hlog : 0 < (Real.log 2)⁻¹ := inv_pos.mpr (Real.log_pos one_lt_two)
  have eM' : M' = (σ s₀ : EReal) := by
    refine le_antisymm ?_ ?_
    · obtain ⟨s, rfl⟩ := hM'₁
      unfold masked
      split
      · exact EReal.coe_le_coe_iff.mpr (hmax s ‹_›)
      · exact bot_le
    · have := hM' s₀
      unfold masked at this
      rwa [if_pos hs₀] at this
  have eM : M = ((σ s₀ * (Real.log 2)⁻¹ : ℝ) : EReal) := by
    refine le_antisymm ?_ ?_
    · obtain ⟨j, k, rfl⟩ := hM₁
      rw [hA]
      split
      · exact EReal.coe_le_coe_iff.mpr (mul_le_mul_of_nonneg_right (hmax _ ‹_›) hlog.le)
      · exact bot_le
    · have hs : s₀.val < n * 512 := lt_of_le_of_lt hs₀ ht
      have := hM ⟨s₀.val / 512, by omega⟩ ⟨s₀.val % 512, by omega⟩
      have e : (⟨512 * (s₀.val / 512) + s₀.val % 512, by omega⟩ : Fin 2048) = s₀ := Fin.ext (by show 512 * (s₀.val / 512) + s₀.val % 512 = s₀.val; omega)
      rw [hA] at this
      simp only [e] at this
      rwa [if_pos hs₀] at this
  subst eM eM'
  set w : Fin 2048 → ℝ := fun s => if s ≤ t then Real.exp (σ s - σ s₀) else 0 with hw
  have hw0 : ∀ s, 0 ≤ w s := fun s => by
    simp only [hw]; split
    · exact (Real.exp_pos _).le
    · exact le_rfl
  have hfar : ∀ s : Fin 2048, n * 512 ≤ s.val → w s = 0 := fun s hs => by
    simp only [hw]; rw [if_neg]; rw [Fin.le_def]; omega
  have hL : 0 < ∑ s, w s := Finset.sum_pos' (fun s _ => hw0 s) ⟨s₀, Finset.mem_univ _, by
    simp only [hw]; rw [if_pos hs₀]; exact Real.exp_pos _⟩
  have eE : ∀ j k, Ideal.exp2 (A j k - ((σ s₀ * (Real.log 2)⁻¹ : ℝ) : EReal)) = (w ⟨512 * j.val + k.val, by omega⟩ : EReal) := fun j k => by
    rw [hA]; exact exp2_masked σ t _ _
  have e1 : ∑ j, ∑ k, Ideal.exp2 (A j k - ((σ s₀ * (Real.log 2)⁻¹ : ℝ) : EReal)) * V j k = ∑ s, (w s : EReal) * v s := by
    rw [← sum_blocks n hn (fun s => (w s : EReal) * v s) fun s hs => by rw [hfar s hs, EReal.coe_zero, zero_mul]]
    exact Finset.sum_congr rfl fun j _ => Finset.sum_congr rfl fun k _ => by rw [eE, hV]
  have e2 : ∑ k, ∑ j, Ideal.exp2 (A j k - ((σ s₀ * (Real.log 2)⁻¹ : ℝ) : EReal)) = ((∑ s, w s : ℝ) : EReal) := by
    rw [Finset.sum_comm, coe_sum, ← sum_blocks n hn (fun s => (w s : EReal)) fun s hs => by rw [hfar s hs, EReal.coe_zero]]
    exact Finset.sum_congr rfl fun j _ => Finset.sum_congr rfl fun k _ => eE j k
  have e3 : ∑ s, Ideal.exp (masked σ t s - (σ s₀ : EReal)) = ((∑ s, w s : ℝ) : EReal) := by
    rw [coe_sum]; exact Finset.sum_congr rfl fun s _ => exp_masked σ t s _
  have hne : ((∑ s, w s : ℝ) : EReal) ≠ 0 := by exact_mod_cast hL.ne'
  unfold blkRow refRow
  rw [e1, e2, e3]
  have hdiv : ∀ x : EReal, Ideal.div x ((∑ s, w s : ℝ) : EReal) = x * (((∑ s, w s)⁻¹ : ℝ) : EReal) := fun x => by
    unfold Ideal.div; rw [if_neg hne, EReal.coe_inv]
  rw [hdiv, one_mul, sum_mul_coe _ _ _ (inv_pos.mpr hL).le]
  refine Finset.sum_congr rfl fun s _ => ?_
  rw [hdiv, exp_masked σ t s, mul_assoc, mul_comm (v s), ← mul_assoc]

/-- A maximum folded over all of a nonempty finite type from minus infinity is an upper bound … -/
theorem le_fold {ι : Type*} [Fintype ι] (f : ι → EReal) (i : ι) : f i ≤ Finset.fold max ⊥ f Finset.univ :=
  Finset.le_fold_max (f i) |>.mpr (.inr ⟨i, Finset.mem_univ _, le_rfl⟩)

/-- … and one of the entries. -/
theorem exists_fold {ι : Type*} [Fintype ι] [Nonempty ι] (f : ι → EReal) : ∃ i, Finset.fold max ⊥ f Finset.univ = f i := by
  obtain ⟨i, -, h⟩ := Finset.exists_max_image (Finset.univ : Finset ι) f Finset.univ_nonempty
  exact ⟨i, le_antisymm (Finset.fold_max_le (f i) |>.mpr ⟨bot_le, fun j hj => h j hj⟩) (le_fold f i)⟩

end Cert.AttnSoftmax

end
-- ==== Proof.Pay.lean ====
module

public import proofs.«01_k».proof.Proof.Gen.KernelIdeal.Frame
public import proofs.«01_k».proof.Proof.Consts
public import proofs.«01_k».proof.Proof.Softmax

@[expose] public section

set_option maxRecDepth 16384

noncomputable section

namespace Cert.AttnPay

open Cert.KernelIdeal Cert.KernelIdeal.Gen Idealize.ShloMosaic
open Cert.AttnSoftmax

/-- The first kernel's block of the projection, at one index. -/
theorem pay0 (x : Vec Ideal S2048x2048 .f32) (W : Vec Ideal S2048x512 .f32) (w : Vec Ideal S1x512 .f32) (t : Fin 2048) (n : Fin 512) :
    k0_pay1 x W w (ix2 t n) = ∑ k, x (ix2 t k) * W (ix2 k n) + w (ix2 0 n) := by
  pointwise [k0_pay1]

/-- The last kernel's block of the projection, at one index. -/
theorem pay2 (x : Vec Ideal S2048x2048 .f32) (W : Vec Ideal S2048x512 .f32) (w : Vec Ideal S1x512 .f32) (t : Fin 2048) (n : Fin 512) :
    k2_pay1 x W w (ix4 0 0 t n) = ∑ k, x (ix2 t k) * W (ix2 k n) + w (ix2 0 n) := by
  pointwise [k2_pay1]

/-- A block of scores: the scaled queries against the keys. -/
def sco (q k : Vec Ideal S1x1x512x128 .f32) (r s : Fin 512) : EReal :=
  ∑ d, q (ix4 0 0 r d) * (AttnConsts.scale : EReal) * k (ix4 0 0 s d)

/-- The block of scores on the diagonal, masked past it. -/
def dia (q k : Vec Ideal S1x1x512x128 .f32) (r s : Fin 512) : EReal := if s ≤ r then sco q k r s else ⊥

/-- Rows 0 to 511: one block of columns. -/
theorem row1 (q k v : Vec Ideal S1x1x512x128 .f32) (r : Fin 512) (d : Fin 128) :
    k1_pay2 q k v (ix2 r d)
      = blkRow (n := 1) ![dia q k r] ![fun s => v (ix4 0 0 s d)] (Finset.fold max ⊥ (fun s => dia q k r s) Finset.univ) := by
  pointwise [k1_pay2]
  simp only [AttnConsts.named_scale, AttnConsts.named_mask, AttnConsts.pat_bot, AttnConsts.select_sle (show 512 ≤ 2048 by decide)]
  unfold blkRow dia sco
  simp only [Fin.sum_univ_one]
  rfl

/-- Rows 512 to 1023: two blocks of columns. -/
theorem row2 (x0 x1 x2 : Vec Ideal S1x1x2048x128 .f32) (q k₀ k₁ v₀ v₁ : Vec Ideal S1x1x512x128 .f32) (r : Fin 512) (d : Fin 128) :
    k1_pay11 (k1_pay9 (k1_pay31 x0 x1 x2) (k1_pay32 x0 x1 x2) q k₀ k₁) (k1_pay10 (k1_pay31 x0 x1 x2) (k1_pay32 x0 x1 x2) q k₀ k₁ v₀ v₁) (ix2 r d)
      = blkRow (n := 2) ![sco q k₀ r, dia q k₁ r] ![fun s => v₀ (ix4 0 0 s d), fun s => v₁ (ix4 0 0 s d)]
          (Finset.fold max ⊥ (fun s => max (sco q k₀ r s) (dia q k₁ r s)) Finset.univ) := by
  pointwise [k1_pay11, k1_pay10, k1_pay9, k1_pay8, k1_pay7, k1_pay6, k1_pay5, k1_pay4, k1_pay3, k1_pay31, k1_pay32]
  simp only [AttnConsts.named_scale, AttnConsts.named_mask, AttnConsts.pat_bot, AttnConsts.select_sle (show 512 ≤ 2048 by decide)]
  unfold blkRow dia sco
  simp only [Fin.sum_univ_two]
  rfl

/-- Rows 1024 to 1535: three blocks of columns. -/
theorem row3 (x0 x1 x2 : Vec Ideal S1x1x2048x128 .f32) (q k₀ k₁ k₂ v₀ v₁ v₂ : Vec Ideal S1x1x512x128 .f32) (r : Fin 512) (d : Fin 128) :
    k1_pay20 (k1_pay14 q k₁) (k1_pay15 (k1_pay31 x0 x1 x2) (k1_pay32 x0 x1 x2) q k₂) (k1_pay16 (k1_pay31 x0 x1 x2) (k1_pay32 x0 x1 x2) q k₀ k₁ k₂)
        (k1_pay17 (F := Ideal)) (k1_pay18 (F := Ideal)) (k1_pay19 (k1_pay31 x0 x1 x2) (k1_pay32 x0 x1 x2) q k₀ k₁ k₂) v₀ v₁ v₂ (ix2 r d)
      = blkRow (n := 3) ![sco q k₀ r, sco q k₁ r, dia q k₂ r] ![fun s => v₀ (ix4 0 0 s d), fun s => v₁ (ix4 0 0 s d), fun s => v₂ (ix4 0 0 s d)]
          (Finset.fold max ⊥ (fun s => max (max (sco q k₀ r s) (sco q k₁ r s)) (dia q k₂ r s)) Finset.univ) := by
  pointwise [k1_pay20, k1_pay19, k1_pay18, k1_pay17, k1_pay16, k1_pay15, k1_pay14, k1_pay13, k1_pay12, k1_pay31, k1_pay32]
  simp only [AttnConsts.named_scale, AttnConsts.named_mask, AttnConsts.pat_bot, AttnConsts.select_sle (show 512 ≤ 2048 by decide)]
  unfold blkRow dia sco
  simp only [Fin.sum_univ_three]
  rfl

/-- Rows 1536 to 2047: all four blocks of columns. -/
theorem row4 (x0 x1 x2 : Vec Ideal S1x1x2048x128 .f32) (q k₀ k₁ k₂ k₃ v₀ v₁ v₂ v₃ : Vec Ideal S1x1x512x128 .f32) (r : Fin 512) (d : Fin 128) :
    k1_pay1 (k1_pay24 (k1_pay21 q) k₂) (k1_pay25 (k1_pay31 x0 x1 x2) (k1_pay32 x0 x1 x2) (k1_pay21 q) k₃)
        (k1_pay26 (k1_pay31 x0 x1 x2) (k1_pay32 x0 x1 x2) (k1_pay21 q) k₀ k₁ k₂ k₃) (k1_pay28 (k1_pay31 x0 x1 x2) (k1_pay32 x0 x1 x2) (k1_pay21 q) k₀ k₁ k₂ k₃)
        (k1_pay29 (k1_pay31 x0 x1 x2) (k1_pay32 x0 x1 x2) (k1_pay21 q) k₀ k₁ k₂ k₃ v₀) (k1_pay30 (k1_pay31 x0 x1 x2) (k1_pay32 x0 x1 x2) (k1_pay21 q) k₀ k₁ k₂ k₃)
        v₁ v₂ v₃ (ix2 r d)
      = blkRow (n := 4) ![sco q k₀ r, sco q k₁ r, sco q k₂ r, dia q k₃ r]
          ![fun s => v₀ (ix4 0 0 s d), fun s => v₁ (ix4 0 0 s d), fun s => v₂ (ix4 0 0 s d), fun s => v₃ (ix4 0 0 s d)]
          (Finset.fold max ⊥ (fun s => max (max (max (sco q k₀ r s) (sco q k₁ r s)) (sco q k₂ r s)) (dia q k₃ r s)) Finset.univ) := by
  pointwise [k1_pay1, k1_pay30, k1_pay29, k1_pay28, k1_pay27, k1_pay26, k1_pay25, k1_pay24, k1_pay23, k1_pay22, k1_pay21, k1_pay31, k1_pay32]
  simp only [AttnConsts.named_scale, AttnConsts.named_mask, AttnConsts.pat_bot, AttnConsts.select_sle (show 512 ≤ 2048 by decide)]
  unfold blkRow dia sco
  simp only [Fin.sum_univ_four]
  rfl

end Cert.AttnPay

end
-- ==== Proof.Reg0.lean ====
module

public import proofs.«01_k».proof.Proof.Pay
public import Idealize.ShloMosaic.Lib.Pipeline.ValueKit

@[expose] public section

set_option maxRecDepth 16384

noncomputable section

namespace Cert.AttnReg0

open Cert.KernelIdeal Cert.KernelIdeal.Gen
open Idealize.ShloMosaic Idealize.ShloMosaic.TcCoe
open Cert.AttnPay

/-- The first of the four groups of columns stored by the first kernel. -/
theorem pay2_apply (x : Vec Ideal S2048x2048 .f32) (W : Vec Ideal S2048x512 .f32) (w : Vec Ideal S1x512 .f32) (t : Fin 2048) (d : Fin 128) :
    k0_pay2 x W w (ix4 0 0 t d) = ∑ k, x (ix2 t k) * W (ix2 k ⟨0 * 128 + d.val, by omega⟩) + w (ix2 0 ⟨0 * 128 + d.val, by omega⟩) := by
  rw [← pay0]; pointwise [k0_pay2]

/-- The second group of columns. -/
theorem pay3_apply (x : Vec Ideal S2048x2048 .f32) (W : Vec Ideal S2048x512 .f32) (w : Vec Ideal S1x512 .f32) (t : Fin 2048) (d : Fin 128) :
    k0_pay3 x W w (ix4 0 0 t d) = ∑ k, x (ix2 t k) * W (ix2 k ⟨1 * 128 + d.val, by omega⟩) + w (ix2 0 ⟨1 * 128 + d.val, by omega⟩) := by
  rw [← pay0]; pointwise [k0_pay3]

/-- The third group of columns. -/
theorem pay4_apply (x : Vec Ideal S2048x2048 .f32) (W : Vec Ideal S2048x512 .f32) (w : Vec Ideal S1x512 .f32) (t : Fin 2048) (d : Fin 128) :
    k0_pay4 x W w (ix4 0 0 t d) = ∑ k, x (ix2 t k) * W (ix2 k ⟨2 * 128 + d.val, by omega⟩) + w (ix2 0 ⟨2 * 128 + d.val, by omega⟩) := by
  rw [← pay0]; pointwise [k0_pay4]

/-- The fourth group of columns. -/
theorem pay5_apply (x : Vec Ideal S2048x2048 .f32) (W : Vec Ideal S2048x512 .f32) (w : Vec Ideal S1x512 .f32) (t : Fin 2048) (d : Fin 128) :
    k0_pay5 x W w (ix4 0 0 t d) = ∑ k, x (ix2 t k) * W (ix2 k ⟨3 * 128 + d.val, by omega⟩) + w (ix2 0 ⟨3 * 128 + d.val, by omega⟩) := by
  rw [← pay0]; pointwise [k0_pay5]

/-- One element of the block: a row of the input against column `128 j + d` of the block of weights. -/
def blk (x : Vec Ideal S2048x2048 .f32) (W : Vec Ideal S2048x512 .f32) (w : Vec Ideal S1x512 .f32) (j : Fin 4) (t : Fin 2048) (d : Fin 128) : EReal :=
  ∑ k, x (ix2 t k) * W (ix2 k ⟨j.val * 128 + d.val, by omega⟩) + w (ix2 0 ⟨j.val * 128 + d.val, by omega⟩)

/-- The four stores together hold the whole block. -/
theorem out_apply (x : Vec Ideal S2048x2048 .f32) (W : Vec Ideal S2048x512 .f32) (w : Vec Ideal S1x512 .f32) (y : S1x4x2048x128.Idx) :
    out0_3 x W w y = blk x W w (y 1) (y 2) (y 3) := by
  frame_out
  have hx : ∀ x : S1x1x2048x128.Idx, (ix4 0 0 (x 2) (x 3) : S1x1x2048x128.Idx) = x := fun x => by
    idx_bounds x
    blk_ext
  refine View.canon_apply_of_pieces (Val := Elt Ideal) (e := .f32) (fun y : S1x4x2048x128.Idx => blk x W w (y 1) (y 2) (y 3)) _ ?_ y (cover0_3 _ _ _ _ y)
  intro p hp
  simp only [List.mem_cons, List.not_mem_nil, or_false] at hp
  rcases hp with rfl | rfl | rfl | rfl <;> intro z
  · have e : r0_6.emb z = ix4 0 3 (z 2) (z 3) := by idx_bounds z; blk_ext
    exact ((congrArg _ (hx z).symm).trans (pay5_apply x W w (z 2) (z 3))).trans (by dsimp only; rw [e]; rfl)
  · have e : r0_5.emb z = ix4 0 2 (z 2) (z 3) := by idx_bounds z; blk_ext
    exact ((congrArg _ (hx z).symm).trans (pay4_apply x W w (z 2) (z 3))).trans (by dsimp only; rw [e]; rfl)
  · have e : r0_4.emb z = ix4 0 1 (z 2) (z 3) := by idx_bounds z; blk_ext
    exact ((congrArg _ (hx z).symm).trans (pay3_apply x W w (z 2) (z 3))).trans (by dsimp only; rw [e]; rfl)
  · have e : r0_3.emb z = ix4 0 0 (z 2) (z 3) := by idx_bounds z; blk_ext
    exact ((congrArg _ (hx z).symm).trans (pay2_apply x W w (z 2) (z 3))).trans (by dsimp only; rw [e]; rfl)

variable (V : (c : Dev nD) → (b : Ref sig .tc) → Buf (Elt Ideal) ((c : Thread nD τ).loc b))

/-- What the first kernel leaves in group `g` of 128 columns: a row of the input against a column of the weights, plus the bias. -/
def val (X : FVec Ideal S4096x2048 .f32) (W : FVec Ideal S2048x6144 .f32) (w : FVec Ideal S1x6144 .f32) (b : Fin 2) (g : Fin 48) (t : Fin 2048) (d : Fin 128) : EReal :=
  ∑ k, X (ix2 ⟨b.val * 2048 + t.val, by omega⟩ k) * W (ix2 k ⟨g.val * 128 + d.val, by omega⟩) + w (ix2 0 ⟨g.val * 128 + d.val, by omega⟩)

/-- The same over the result array's indices. -/
def G (X : FVec Ideal S4096x2048 .f32) (W : FVec Ideal S2048x6144 .f32) (w : FVec Ideal S1x6144 .f32) : FVec Ideal S2x48x2048x128 .f32 :=
  fun i => val X W w (i 0) (i 1) (i 2) (i 3)

/-- The block indices of the four windows at every point. -/
theorem idx : ∀ t : Fin grid0.N, win0_0.index t = ![t.val / 12, 0] ∧ win0_1.index t = ![0, t.val % 12] ∧ win0_2.index t = ![0, t.val % 12]
    ∧ win0_3.index t = ![t.val / 12, t.val % 12, 0, 0] := by decide +kernel

/-- The array of queries, keys and values after the first kernel. -/
theorem final (c : Dev nD) : (dat0 V c).arrAt 3 cfg0.N = G (V c main_v0) (V c main_arg1) (V c main_v1) := by
  refine (dat0 V c).arrAt_eq_of_covers 3 _ (by decide +kernel) fun t hf y => ?_
  blk_simp
  rw [after0_3]
  refine (out_apply (iblk0 V c 0 t) (iblk0 V c 1 t) (iblk0 V c 2 t) y).trans ?_
  idx_bounds y
  unfold G val blk
  congr 1
  · refine Finset.sum_congr rfl fun k _ => ?_
    congr 1
    · blk_ext [iblk0, idx t]
    · blk_ext [iblk0, idx t]
  · blk_ext [iblk0, idx t]

end Cert.AttnReg0

end
-- ==== Proof.Att.lean ====
module

public import proofs.«01_k».proof.Proof.Pay
public import Idealize.ShloMosaic.Lib.Pipeline.ValueKit

@[expose] public section

set_option maxRecDepth 16384

noncomputable section

namespace Cert.AttnAtt

open Cert.KernelIdeal Cert.KernelIdeal.Gen
open Idealize.ShloMosaic Idealize.ShloMosaic.TcCoe
open Cert.AttnPay Cert.AttnSoftmax

/-- The first quarter of a block's rows, read at an index. -/
theorem ld0 (x : Vec Ideal S1x1x2048x128 .f32) (r : Fin 512) (d : Fin 128) :
    View.ld x r1_0 (ix4 0 0 r d) = x (ix4 0 0 ⟨512 * 0 + r.val, by omega⟩ d) := by pointwise
/-- The second quarter. -/
theorem ld1 (x : Vec Ideal S1x1x2048x128 .f32) (r : Fin 512) (d : Fin 128) :
    View.ld x r1_2 (ix4 0 0 r d) = x (ix4 0 0 ⟨512 * 1 + r.val, by omega⟩ d) := by pointwise
/-- The third quarter. -/
theorem ld2 (x : Vec Ideal S1x1x2048x128 .f32) (r : Fin 512) (d : Fin 128) :
    View.ld x r1_4 (ix4 0 0 r d) = x (ix4 0 0 ⟨512 * 2 + r.val, by omega⟩ d) := by pointwise
/-- The fourth quarter. -/
theorem ld3 (x : Vec Ideal S1x1x2048x128 .f32) (r : Fin 512) (d : Fin 128) :
    View.ld x r1_6 (ix4 0 0 r d) = x (ix4 0 0 ⟨512 * 3 + r.val, by omega⟩ d) := by pointwise

/-- The reference's row with its own largest score. -/
def row (σ : Fin 2048 → ℝ) (t : Fin 2048) (v : Fin 2048 → EReal) : EReal :=
  refRow σ t v (Finset.fold max ⊥ (masked σ t) Finset.univ)

/-- One row over `n` blocks of columns with the largest entry found through column-wise maxima is the reference's row. -/
theorem row_of_blk (n : ℕ) (hn : n ≤ 4) (σ : Fin 2048 → ℝ) (t : Fin 2048) (ht : t.val < n * 512)
    (v : Fin 2048 → EReal) (A V : Fin n → Fin 512 → EReal) (f : Fin 512 → EReal)
    (hA : ∀ j k, A j k = if (⟨512 * j.val + k.val, by omega⟩ : Fin 2048) ≤ t
      then ((σ ⟨512 * j.val + k.val, by omega⟩ * (Real.log 2)⁻¹ : ℝ) : EReal) else ⊥)
    (hV : ∀ j k, V j k = v ⟨512 * j.val + k.val, by omega⟩)
    (hf : ∀ j k, A j k ≤ f k) (hf₁ : ∀ k, ∃ j, f k = A j k) :
    blkRow A V (Finset.fold max ⊥ f Finset.univ) = row σ t v := by
  refine blkRow_eq n hn σ t ht v A V _ _ hA hV (fun j k => (hf j k).trans (le_fold f k)) ?_ (le_fold _) (exists_fold _)
  obtain ⟨k, hk⟩ := exists_fold f
  obtain ⟨j, hj⟩ := hf₁ k
  exact ⟨j, k, hk.trans hj⟩

section
variable (q k v : Vec Ideal S1x1x2048x128 .f32) (σ : Fin 2048 → Fin 2048 → ℝ)
  (hσ : ∀ t s, ∑ d, q (ix4 0 0 t d) * (AttnConsts.scale : EReal) * k (ix4 0 0 s d) = ((σ t s * (Real.log 2)⁻¹ : ℝ) : EReal))
include hσ

/-- A block of scores left of the diagonal block: every column is seen, and the score is the real one in base two. -/
theorem sco_of (q' k' : Vec Ideal S1x1x512x128 .f32) (r s : Fin 512) (R S : Fin 2048) (hq : ∀ d, q' (ix4 0 0 r d) = q (ix4 0 0 R d))
    (hk : ∀ d, k' (ix4 0 0 s d) = k (ix4 0 0 S d)) (h : S ≤ R) :
    sco q' k' r s = if S ≤ R then ((σ R S * (Real.log 2)⁻¹ : ℝ) : EReal) else ⊥ := by
  rw [if_pos h]
  unfold sco
  simp only [hq, hk]
  exact hσ R S

/-- A block of scores on the diagonal: the columns up to the row are seen. -/
theorem dia_of (q' k' : Vec Ideal S1x1x512x128 .f32) (r s : Fin 512) (R S : Fin 2048) (hq : ∀ d, q' (ix4 0 0 r d) = q (ix4 0 0 R d))
    (hk : ∀ d, k' (ix4 0 0 s d) = k (ix4 0 0 S d)) (h : s ≤ r ↔ S ≤ R) :
    dia q' k' r s = if S ≤ R then ((σ R S * (Real.log 2)⁻¹ : ℝ) : EReal) else ⊥ := by
  unfold dia sco
  simp only [hq, hk]
  exact if_congr h (hσ R S) rfl

/-- Rows 0 to 511 of a block. -/
theorem row1_eq (r : Fin 512) (d : Fin 128) :
    k1_pay2 (View.ld q r1_0) (View.ld k r1_0) (View.ld v r1_0) (ix2 r d)
      = row (σ ⟨512 * 0 + r.val, by omega⟩) ⟨512 * 0 + r.val, by omega⟩ (fun s => v (ix4 0 0 s d)) := by
  rw [AttnPay.row1]
  refine row_of_blk 1 (by decide) _ _ (by dsimp only; omega) _ _ _ _ ?_ ?_ ?_ ?_
  · intro j s
    fin_cases j
    · exact dia_of q k σ hσ _ _ r s ⟨512 * 0 + r.val, by omega⟩ ⟨512 * 0 + s.val, by omega⟩ (ld0 q r) (ld0 k s) (by rw [Fin.le_def, Fin.le_def]; dsimp only; omega)
  · intro j s
    fin_cases j
    · exact ld0 v s d
  · intro j s
    fin_cases j
    · exact le_rfl
  · intro s
    exact ⟨0, rfl⟩

/-- Rows 512 to 1023 of a block. -/
theorem row2_eq (r : Fin 512) (d : Fin 128) :
    k1_pay11 (k1_pay9 (k1_pay31 q k v) (k1_pay32 q k v) (View.ld q r1_2) (View.ld k r1_0) (View.ld k r1_2)) (k1_pay10 (k1_pay31 q k v) (k1_pay32 q k v) (View.ld q r1_2) (View.ld k r1_0) (View.ld k r1_2) (View.ld v r1_0) (View.ld v r1_2)) (ix2 r d)
      = row (σ ⟨512 * 1 + r.val, by omega⟩) ⟨512 * 1 + r.val, by omega⟩ (fun s => v (ix4 0 0 s d)) := by
  rw [AttnPay.row2]
  refine row_of_blk 2 (by decide) _ _ (by dsimp only; omega) _ _ _ _ ?_ ?_ ?_ ?_
  · intro j s
    fin_cases j
    · exact sco_of q k σ hσ _ _ r s ⟨512 * 1 + r.val, by omega⟩ ⟨512 * 0 + s.val, by omega⟩ (ld1 q r) (ld0 k s) (Fin.le_def.mpr (by dsimp only; omega))
    · exact dia_of q k σ hσ _ _ r s ⟨512 * 1 + r.val, by omega⟩ ⟨512 * 1 + s.val, by omega⟩ (ld1 q r) (ld1 k s) (by rw [Fin.le_def, Fin.le_def]; dsimp only; omega)
  · intro j s
    fin_cases j
    · exact ld0 v s d
    · exact ld1 v s d
  · intro j s
    fin_cases j
    · exact le_max_of_le_left (le_rfl)
    · exact le_max_right _ _
  · intro s
    rcases max_choice (sco (View.ld q r1_2) (View.ld k r1_0) r s) (dia (View.ld q r1_2) (View.ld k r1_2) r s) with h2 | h2
    · exact ⟨0, h2⟩
    · exact ⟨1, h2⟩

/-- Rows 1024 to 1535 of a block. -/
theorem row3_eq (r : Fin 512) (d : Fin 128) :
    k1_pay20 (k1_pay14 (View.ld q r1_4) (View.ld k r1_2)) (k1_pay15 (k1_pay31 q k v) (k1_pay32 q k v) (View.ld q r1_4) (View.ld k r1_4)) (k1_pay16 (k1_pay31 q k v) (k1_pay32 q k v) (View.ld q r1_4) (View.ld k r1_0) (View.ld k r1_2) (View.ld k r1_4))
        (k1_pay17 (F := Ideal)) (k1_pay18 (F := Ideal)) (k1_pay19 (k1_pay31 q k v) (k1_pay32 q k v) (View.ld q r1_4) (View.ld k r1_0) (View.ld k r1_2) (View.ld k r1_4)) (View.ld v r1_0) (View.ld v r1_2) (View.ld v r1_4) (ix2 r d)
      = row (σ ⟨512 * 2 + r.val, by omega⟩) ⟨512 * 2 + r.val, by omega⟩ (fun s => v (ix4 0 0 s d)) := by
  rw [AttnPay.row3]
  refine row_of_blk 3 (by decide) _ _ (by dsimp only; omega) _ _ _ _ ?_ ?_ ?_ ?_
  · intro j s
    fin_cases j
    · exact sco_of q k σ hσ _ _ r s ⟨512 * 2 + r.val, by omega⟩ ⟨512 * 0 + s.val, by omega⟩ (ld2 q r) (ld0 k s) (Fin.le_def.mpr (by dsimp only; omega))
    · exact sco_of q k σ hσ _ _ r s ⟨512 * 2 + r.val, by omega⟩ ⟨512 * 1 + s.val, by omega⟩ (ld2 q r) (ld1 k s) (Fin.le_def.mpr (by dsimp only; omega))
    · exact dia_of q k σ hσ _ _ r s ⟨512 * 2 + r.val, by omega⟩ ⟨512 * 2 + s.val, by omega⟩ (ld2 q r) (ld2 k s) (by rw [Fin.le_def, Fin.le_def]; dsimp only; omega)
  · intro j s
    fin_cases j
    · exact ld0 v s d
    · exact ld1 v s d
    · exact ld2 v s d
  · intro j s
    fin_cases j
    · exact le_max_of_le_left (le_max_of_le_left (le_rfl))
    · exact le_max_of_le_left (le_max_right _ _)
    · exact le_max_right _ _
  · intro s
    rcases max_choice (max (sco (View.ld q r1_4) (View.ld k r1_0) r s) (sco (View.ld q r1_4) (View.ld k r1_2) r s)) (dia (View.ld q r1_4) (View.ld k r1_4) r s) with h3 | h3
    · rcases max_choice (sco (View.ld q r1_4) (View.ld k r1_0) r s) (sco (View.ld q r1_4) (View.ld k r1_2) r s) with h2 | h2
      · exact ⟨0, h3.trans h2⟩
      · exact ⟨1, h3.trans h2⟩
    · exact ⟨2, h3⟩

/-- Rows 1536 to 2047 of a block. -/
theorem row4_eq (r : Fin 512) (d : Fin 128) :
    k1_pay1 (k1_pay24 (k1_pay21 (View.ld q r1_6)) (View.ld k r1_4)) (k1_pay25 (k1_pay31 q k v) (k1_pay32 q k v) (k1_pay21 (View.ld q r1_6)) (View.ld k r1_6))
        (k1_pay26 (k1_pay31 q k v) (k1_pay32 q k v) (k1_pay21 (View.ld q r1_6)) (View.ld k r1_0) (View.ld k r1_2) (View.ld k r1_4) (View.ld k r1_6)) (k1_pay28 (k1_pay31 q k v) (k1_pay32 q k v) (k1_pay21 (View.ld q r1_6)) (View.ld k r1_0) (View.ld k r1_2) (View.ld k r1_4) (View.ld k r1_6))
        (k1_pay29 (k1_pay31 q k v) (k1_pay32 q k v) (k1_pay21 (View.ld q r1_6)) (View.ld k r1_0) (View.ld k r1_2) (View.ld k r1_4) (View.ld k r1_6) (View.ld v r1_0)) (k1_pay30 (k1_pay31 q k v) (k1_pay32 q k v) (k1_pay21 (View.ld q r1_6)) (View.ld k r1_0) (View.ld k r1_2) (View.ld k r1_4) (View.ld k r1_6))
        (View.ld v r1_2) (View.ld v r1_4) (View.ld v r1_6) (ix2 r d)
      = row (σ ⟨512 * 3 + r.val, by omega⟩) ⟨512 * 3 + r.val, by omega⟩ (fun s => v (ix4 0 0 s d)) := by
  rw [AttnPay.row4]
  refine row_of_blk 4 (by decide) _ _ (by dsimp only; omega) _ _ _ _ ?_ ?_ ?_ ?_
  · intro j s
    fin_cases j
    · exact sco_of q k σ hσ _ _ r s ⟨512 * 3 + r.val, by omega⟩ ⟨512 * 0 + s.val, by omega⟩ (ld3 q r) (ld0 k s) (Fin.le_def.mpr (by dsimp only; omega))
    · exact sco_of q k σ hσ _ _ r s ⟨512 * 3 + r.val, by omega⟩ ⟨512 * 1 + s.val, by omega⟩ (ld3 q r) (ld1 k s) (Fin.le_def.mpr (by dsimp only; omega))
    · exact sco_of q k σ hσ _ _ r s ⟨512 * 3 + r.val, by omega⟩ ⟨512 * 2 + s.val, by omega⟩ (ld3 q r) (ld2 k s) (Fin.le_def.mpr (by dsimp only; omega))
    · exact dia_of q k σ hσ _ _ r s ⟨512 * 3 + r.val, by omega⟩ ⟨512 * 3 + s.val, by omega⟩ (ld3 q r) (ld3 k s) (by rw [Fin.le_def, Fin.le_def]; dsimp only; omega)
  · intro j s
    fin_cases j
    · exact ld0 v s d
    · exact ld1 v s d
    · exact ld2 v s d
    · exact ld3 v s d
  · intro j s
    fin_cases j
    · exact le_max_of_le_left (le_max_of_le_left (le_max_of_le_left (le_rfl)))
    · exact le_max_of_le_left (le_max_of_le_left (le_max_right _ _))
    · exact le_max_of_le_left (le_max_right _ _)
    · exact le_max_right _ _
  · intro s
    rcases max_choice (max (max (sco (View.ld q r1_6) (View.ld k r1_0) r s) (sco (View.ld q r1_6) (View.ld k r1_2) r s)) (sco (View.ld q r1_6) (View.ld k r1_4) r s)) (dia (View.ld q r1_6) (View.ld k r1_6) r s) with h4 | h4
    · rcases max_choice (max (sco (View.ld q r1_6) (View.ld k r1_0) r s) (sco (View.ld q r1_6) (View.ld k r1_2) r s)) (sco (View.ld q r1_6) (View.ld k r1_4) r s) with h3 | h3
      · rcases max_choice (sco (View.ld q r1_6) (View.ld k r1_0) r s) (sco (View.ld q r1_6) (View.ld k r1_2) r s) with h2 | h2
        · exact ⟨0, h4.trans (h3.trans h2)⟩
        · exact ⟨1, h4.trans (h3.trans h2)⟩
      · exact ⟨2, h4.trans h3⟩
    · exact ⟨3, h4⟩

/-- A whole block of rows. -/
theorem out_apply (y : S2048x128.Idx) : out1_3 q k v y = row (σ (y 0)) (y 0) (fun s => v (ix4 0 0 s (y 1))) := by
  unfold_out out1_3
  refine View.canon_apply_of_pieces (Val := Elt Ideal) (e := .f32) (fun y : S2048x128.Idx => row (σ (y 0)) (y 0) (fun s => v (ix4 0 0 s (y 1)))) _ ?_ y (cover1_3 _ _ _ _ y)
  have hx : ∀ x : S512x128.Idx, (ix2 (x 0) (x 1) : S512x128.Idx) = x := fun x => ix2_eta x
  intro p hp
  simp only [List.mem_cons, List.not_mem_nil, or_false] at hp
  rcases hp with rfl | rfl | rfl | rfl <;> intro z
  · have e : r1_7.emb z = ix2 ⟨512 * 3 + (z 0).val, by have := (z 0).isLt; dsimp at this; omega⟩ (z 1) := by blk_ext
    exact ((congrArg _ (hx z).symm).trans (row4_eq q k v σ hσ (z 0) (z 1))).trans (by dsimp only; rw [e]; rfl)
  · have e : r1_5.emb z = ix2 ⟨512 * 2 + (z 0).val, by have := (z 0).isLt; dsimp at this; omega⟩ (z 1) := by blk_ext
    exact ((congrArg _ (hx z).symm).trans (row3_eq q k v σ hσ (z 0) (z 1))).trans (by dsimp only; rw [e]; rfl)
  · have e : r1_3.emb z = ix2 ⟨512 * 1 + (z 0).val, by have := (z 0).isLt; dsimp at this; omega⟩ (z 1) := by blk_ext
    exact ((congrArg _ (hx z).symm).trans (row2_eq q k v σ hσ (z 0) (z 1))).trans (by dsimp only; rw [e]; rfl)
  · have e : r1_1.emb z = ix2 ⟨512 * 0 + (z 0).val, by have := (z 0).isLt; dsimp at this; omega⟩ (z 1) := by blk_ext
    exact ((congrArg _ (hx z).symm).trans (row1_eq q k v σ hσ (z 0) (z 1))).trans (by dsimp only; rw [e]; rfl)

end

end Cert.AttnAtt

end
-- ==== Proof.Reg1.lean ====
module

public import proofs.«01_k».proof.Proof.Att

@[expose] public section

set_option maxRecDepth 16384

noncomputable section

namespace Cert.AttnReg1

open Cert.KernelIdeal Cert.KernelIdeal.Gen
open Idealize.ShloMosaic Idealize.ShloMosaic.TcCoe
open Cert.AttnPay Cert.AttnAtt

variable (V : (c : Dev nD) → (b : Ref sig .tc) → Buf (Elt Ideal) ((c : Thread nD τ).loc b))

/-- What the second kernel leaves: in batch `b`, head `h`, the reference's row of attention over the scores `σ`
    with the values of that head. -/
def G (σ : Fin 2 → Fin 16 → Fin 2048 → Fin 2048 → ℝ) (A : FVec Ideal S2x48x2048x128 .f32) : FVec Ideal S4096x2048 .f32 :=
  fun i => row (σ ⟨(i 0).val / 2048, by have := (i 0).isLt; dsimp at this; omega⟩ ⟨(i 1).val / 128, by have := (i 1).isLt; dsimp at this; omega⟩ ⟨(i 0).val % 2048, by omega⟩)
    ⟨(i 0).val % 2048, by omega⟩
    (fun s => A (ix4 ⟨(i 0).val / 2048, by have := (i 0).isLt; dsimp at this; omega⟩ ⟨32 + (i 1).val / 128, by have := (i 1).isLt; dsimp at this; omega⟩ s ⟨(i 1).val % 128, by omega⟩))

/-- The attention rows at a row of batch `b` and a column of head `h`. -/
theorem G_apply (σ : Fin 2 → Fin 16 → Fin 2048 → Fin 2048 → ℝ) (A : FVec Ideal S2x48x2048x128 .f32) (i : S4096x2048.Idx)
    (b : Fin 2) (h : Fin 16) (t : Fin 2048) (d : Fin 128) (h0 : (i 0).val = b.val * 2048 + t.val) (h1 : (i 1).val = h.val * 128 + d.val) :
    G σ A i = row (σ b h t) t (fun s => A (ix4 b ⟨32 + h.val, by omega⟩ s d)) := by
  unfold G
  have eb : (⟨(i 0).val / 2048, by omega⟩ : Fin 2) = b := Fin.ext (by dsimp only; omega)
  have et : (⟨(i 0).val % 2048, by omega⟩ : Fin 2048) = t := Fin.ext (by dsimp only; omega)
  have eh : (⟨(i 1).val / 128, by omega⟩ : Fin 16) = h := Fin.ext (by dsimp only; omega)
  have eg : (⟨32 + (i 1).val / 128, by omega⟩ : Fin 48) = ⟨32 + h.val, by omega⟩ := Fin.ext (by dsimp only; omega)
  have ed : (⟨(i 1).val % 128, by omega⟩ : Fin 128) = d := Fin.ext (by dsimp only; omega)
  rw [eb, et, eh, eg, ed]

/-- The block indices of the four windows at every point. -/
theorem idx : ∀ t : Fin grid1.N, win1_0.index t = ![t.val / 16, t.val % 16, 0, 0] ∧ win1_1.index t = ![t.val / 16, 16 + t.val % 16, 0, 0]
    ∧ win1_2.index t = ![t.val / 16, 32 + t.val % 16, 0, 0] ∧ win1_3.index t = ![t.val / 16, t.val % 16] := by decide +kernel

/-- The attention rows after the second kernel, where the scaled products of queries and keys are the real `σ` in base two. -/
theorem final (c : Dev nD) (σ : Fin 2 → Fin 16 → Fin 2048 → Fin 2048 → ℝ) (A : FVec Ideal S2x48x2048x128 .f32) (hA : V c main_v2 = A)
    (hσ : ∀ (b : Fin 2) (h : Fin 16) (t s : Fin 2048), ∑ d, A (ix4 b ⟨h.val, by omega⟩ t d) * (AttnConsts.scale : EReal) * A (ix4 b ⟨16 + h.val, by omega⟩ s d)
      = ((σ b h t s * (Real.log 2)⁻¹ : ℝ) : EReal)) :
    (dat1 V c).arrAt 3 cfg1.N = G σ A := by
  refine (dat1 V c).arrAt_eq_of_covers 3 _ (by decide +kernel) fun t hf y => ?_
  blk_simp
  rw [after1_3]
  have hN : t.val < 32 := t.isLt
  idx_bounds y
  have e0 : ∀ (r : Fin 2048) (d : Fin 128), iblk1 V c 0 t (ix4 0 0 r d) = A (ix4 ⟨t.val / 16, by omega⟩ ⟨t.val % 16, by omega⟩ r d) := fun r d => by
    subst hA; blk_ext [iblk1, idx t]
  have e1 : ∀ (r : Fin 2048) (d : Fin 128), iblk1 V c 1 t (ix4 0 0 r d) = A (ix4 ⟨t.val / 16, by omega⟩ ⟨16 + t.val % 16, by omega⟩ r d) := fun r d => by
    subst hA; blk_ext [iblk1, idx t]
  have e2 : ∀ (r : Fin 2048) (d : Fin 128), iblk1 V c 2 t (ix4 0 0 r d) = A (ix4 ⟨t.val / 16, by omega⟩ ⟨32 + t.val % 16, by omega⟩ r d) := fun r d => by
    subst hA; blk_ext [iblk1, idx t]
  refine (out_apply (iblk1 V c 0 t) (iblk1 V c 1 t) (iblk1 V c 2 t) (σ ⟨t.val / 16, by omega⟩ ⟨t.val % 16, by omega⟩) (fun r s => ?_) y).trans ?_
  · refine Eq.trans (Finset.sum_congr rfl fun d _ => ?_) (hσ ⟨t.val / 16, by omega⟩ ⟨t.val % 16, by omega⟩ r s)
    rw [e0, e1]
  · refine Eq.trans ?_ (G_apply σ A _ ⟨t.val / 16, by omega⟩ ⟨t.val % 16, by omega⟩ (y 0) (y 1) ?_ ?_).symm
    · exact congrArg (row _ _) (funext fun s => e2 s (y 1))
    · blk_simp [idx t]
    · blk_simp [idx t]

end Cert.AttnReg1

end
-- ==== Proof.Reg2.lean ====
module

public import proofs.«01_k».proof.Proof.Pay
public import Idealize.ShloMosaic.Lib.Pipeline.ValueKit

@[expose] public section

set_option maxRecDepth 16384

noncomputable section

namespace Cert.AttnReg2

open Cert.KernelIdeal Cert.KernelIdeal.Gen
open Idealize.ShloMosaic Idealize.ShloMosaic.TcCoe
open Cert.AttnPay
open Idealize.ShloMosaic.Pipeline (Dat)

variable (V : (c : Dev nD) → (b : Ref sig .tc) → Buf (Elt Ideal) ((c : Thread nD τ).loc b))

/-- What the last kernel leaves: each row of its input against each column of the weights, plus the bias. -/
def val (Y : FVec Ideal S4096x2048 .f32) (W : FVec Ideal S2048x2048 .f32) (w : FVec Ideal S1x2048 .f32) (b : Fin 2) (t n : Fin 2048) : EReal :=
  ∑ k, Y (ix2 ⟨b.val * 2048 + t.val, by omega⟩ k) * W (ix2 k n) + w (ix2 0 n)

/-- The same over the result array's indices. -/
def G (Y : FVec Ideal S4096x2048 .f32) (W : FVec Ideal S2048x2048 .f32) (w : FVec Ideal S1x2048 .f32) : FVec Ideal S2x1x2048x2048 .f32 :=
  fun i => val Y W w (i 0) (i 2) (i 3)

/-- The block indices of the four windows at every point. -/
theorem idx : ∀ t : Fin grid2.N, win2_0.index t = ![t.val / 4, 0] ∧ win2_1.index t = ![0, t.val % 4] ∧ win2_2.index t = ![0, t.val % 4]
    ∧ win2_3.index t = ![t.val / 4, 0, 0, t.val % 4] := by decide +kernel

/-- The result array after the last kernel. -/
theorem final (c : Dev nD) : (dat2 V c).arrAt 3 cfg2.N = G (V c main_v3) (V c main_arg3) (V c main_v4) := by
  refine (dat2 V c).arrAt_eq_of_covers 3 _ (by decide +kernel) fun t hf y => ?_
  blk_simp
  rw [after2_3]
  frame_out
  have hy : (ix4 0 0 (y 2) (y 3) : S1x1x2048x512.Idx) = y := by
    idx_bounds y
    blk_ext
  have h := pay2 (iblk2 V c 0 t) (iblk2 V c 1 t) (iblk2 V c 2 t) (y 2) (y 3)
  rw [hy] at h
  refine h.trans ?_
  unfold G val
  congr 1
  · refine Finset.sum_congr rfl fun k _ => ?_
    congr 1
    · blk_ext [iblk2, idx t]
    · blk_ext [iblk2, idx t]
  · blk_ext [iblk2, idx t]

end Cert.AttnReg2

end
-- ==== Proof.Spec.lean ====
module

public import Idealize.ShloMosaic.PureOps.Ideal
public import Idealize.ShloMosaic.Lib.Pointwise

@[expose] public section

noncomputable section

namespace Cert.AttnSpec

open Idealize.ShloMosaic

/-- One entry of the queries, keys and values before they are split: row `t` of batch `b`'s input times column
    `n` of the weights, plus the bias. -/
def qkvAt (X : FVec Ideal ⟨3, ![2, 2048, 2048]⟩ .f32) (W : FVec Ideal ⟨2, ![2048, 6144]⟩ .f32) (w : FVec Ideal ⟨1, ![6144]⟩ .f32)
    (b : Fin 2) (t : Fin 2048) (n : Fin 6144) : EReal :=
  ∑ k, X (ix3 b t k) * W (ix2 k n) + w (ix1 n)

/-- Head `h`'s column `d` among the queries, … -/
def qcol (h : Fin 16) (d : Fin 128) : Fin 6144 := ⟨h.val * 128 + d.val, by omega⟩
/-- … among the keys, … -/
def kcol (h : Fin 16) (d : Fin 128) : Fin 6144 := ⟨2048 + (h.val * 128 + d.val), by omega⟩
/-- … and among the values. -/
def vcol (h : Fin 16) (d : Fin 128) : Fin 6144 := ⟨4096 + (h.val * 128 + d.val), by omega⟩

/-- One entry of the output: a row of the heads' results side by side times a column of the output weights, plus
    the output bias. -/
def outAt (Y : Fin 2 → Fin 16 → Fin 2048 → Fin 128 → EReal) (W : FVec Ideal ⟨2, ![2048, 2048]⟩ .f32) (w : FVec Ideal ⟨1, ![2048]⟩ .f32)
    (b : Fin 2) (t n : Fin 2048) : EReal :=
  ∑ x : Fin 2048, Y b ⟨x.val / 128, by omega⟩ t ⟨x.val % 128, Nat.mod_lt _ (by decide)⟩ * W (ix2 x n) + w (ix1 n)

end Cert.AttnSpec

end
-- ==== Proof.KerValue.lean ====
module

public import proofs.«01_k».proof.Proof.Reg0
public import proofs.«01_k».proof.Proof.Reg1
public import proofs.«01_k».proof.Proof.Reg2
public import proofs.«01_k».proof.Proof.Spec
public import Idealize.ShloMosaic.Lib.StableHlo.ReadAt

@[expose] public section

set_option maxRecDepth 16384

noncomputable section

namespace Cert.AttnKer

open Cert.KernelIdeal Cert.KernelIdeal.Gen
open Idealize.ShloMosaic Idealize.ShloMosaic.TcCoe
open Cert.AttnSpec

variable (m : (ℓ : Loc nD τ sig) → Buf (Elt Ideal) ℓ) (ρ : Dev nD → PrngReg)

/-- The input. -/
abbrev X (c : Dev nD) : FVec Ideal S2x2048x2048 .f32 := m ((c : Thread nD τ).loc main_arg0)
/-- The first projection's weights. -/
abbrev Wa (c : Dev nD) : FVec Ideal S2048x6144 .f32 := m ((c : Thread nD τ).loc main_arg1)
/-- The first projection's bias. -/
abbrev ba (c : Dev nD) : FVec Ideal S6144 .f32 := m ((c : Thread nD τ).loc main_arg2)
/-- The output projection's weights. -/
abbrev Wo (c : Dev nD) : FVec Ideal S2048x2048 .f32 := m ((c : Thread nD τ).loc main_arg3)
/-- The output projection's bias. -/
abbrev bo (c : Dev nD) : FVec Ideal S2048 .f32 := m ((c : Thread nD τ).loc main_arg4)

/-- The first kernel's input: the argument with its batches stacked. -/
theorem v0_apply (c : Dev nD) (b : Fin 2) (t k : Fin 2048) :
    (V1 m ρ c main_v0 : FVec Ideal S4096x2048 .f32) (ix2 ⟨b.val * 2048 + t.val, by omega⟩ k) = X m c (ix3 b t k) := by
  show StableHlo.after hostOps0 (W0 m ρ c) (Proc.devRef .tc main_v0) _ = _
  after_reads_at

/-- The first kernel's bias: the argument as one row. -/
theorem v1_apply (c : Dev nD) (n : Fin 6144) : (V1 m ρ c main_v1 : FVec Ideal S1x6144 .f32) (ix2 0 n) = ba m c (ix1 n) := by
  show StableHlo.after hostOps0 (W0 m ρ c) (Proc.devRef .tc main_v1) _ = _
  after_reads_at

/-- The first kernel leaves the projection, its columns in groups of 128. -/
theorem v2_apply (c : Dev nD) (b : Fin 2) (g : Fin 48) (t : Fin 2048) (d : Fin 128) :
    (V2 m ρ c main_v2 : FVec Ideal S2x48x2048x128 .f32) (ix4 b g t d)
      = qkvAt (X m c) (Wa m c) (ba m c) b t ⟨g.val * 128 + d.val, by omega⟩ := by
  have h : (V2 m ρ c main_v2 : FVec Ideal S2x48x2048x128 .f32)
      = AttnReg0.G (V1 m ρ c main_v0) (V1 m ρ c main_arg1) (V1 m ρ c main_v1) :=
    (W2_arr m ρ c 3).trans (AttnReg0.final (V1 m ρ) c)
  have hW : (V1 m ρ c main_arg1 : FVec Ideal S2048x6144 .f32) = Wa m c := W1_args m ρ c main_arg1 (by decide)
  rw [h, hW]
  show AttnReg0.val _ _ _ b g t d = _
  unfold AttnReg0.val qkvAt
  rw [v1_apply m ρ c]
  simp only [v0_apply m ρ c]

/-- The output kernel's bias: the argument as one row. -/
theorem v4_apply (c : Dev nD) (n : Fin 2048) : (V4 m ρ c main_v4 : FVec Ideal S1x2048 .f32) (ix2 0 n) = bo m c (ix1 n) := by
  have h : (W3 m ρ c (Proc.devRef .tc main_arg4) : FVec Ideal S2048 .f32) = bo m c := W3_args m ρ c main_arg4 (by decide)
  rw [← h]
  show StableHlo.after hostOps2 (W3 m ρ c) (Proc.devRef .tc main_v4) _ = _
  after_reads_at

/-- The program's result: the output kernel's, without its axis of one. -/
theorem v6_apply (c : Dev nD) (b : Fin 2) (t n : Fin 2048) :
    (W6 m ρ c (Proc.devRef .tc main_v6) : FVec Ideal S2x2048x2048 .f32) (ix3 b t n)
      = (W5 m ρ c (Proc.devRef .tc main_v5) : FVec Ideal S2x1x2048x2048 .f32) (ix4 b 0 t n) := by
  show StableHlo.after hostOps3 (W5 m ρ c) (Proc.devRef .tc main_v6) _ = _
  after_reads_at

/-- The kernel's result: attention with the scores `σ` in real arithmetic, then the output projection. -/
theorem value (c : Dev nD) (σ : Fin 2 → Fin 16 → Fin 2048 → Fin 2048 → ℝ)
    (hσ : ∀ b h t s, ∑ d, qkvAt (X m c) (Wa m c) (ba m c) b t (qcol h d) * (AttnConsts.scale : EReal) * qkvAt (X m c) (Wa m c) (ba m c) b s (kcol h d)
      = ((σ b h t s * (Real.log 2)⁻¹ : ℝ) : EReal)) (b : Fin 2) (t n : Fin 2048) :
    (W6 m ρ c (Proc.devRef .tc main_v6) : FVec Ideal S2x2048x2048 .f32) (ix3 b t n)
      = outAt (fun b h t d => AttnAtt.row (σ b h t) t (fun s => qkvAt (X m c) (Wa m c) (ba m c) b s (vcol h d))) (Wo m c) (bo m c) b t n := by
  have h5 : (W5 m ρ c (Proc.devRef .tc main_v5) : FVec Ideal S2x1x2048x2048 .f32)
      = AttnReg2.G (V4 m ρ c main_v3) (V4 m ρ c main_arg3) (V4 m ρ c main_v4) :=
    (W5_arr m ρ c 3).trans (AttnReg2.final (V4 m ρ) c)
  have hW : (V4 m ρ c main_arg3 : FVec Ideal S2048x2048 .f32) = Wo m c := W4_args m ρ c main_arg3 (by decide)
  have h3 : (V4 m ρ c main_v3 : FVec Ideal S4096x2048 .f32) = AttnReg1.G σ (V2 m ρ c main_v2) := by
    refine (W4_of m ρ c main_v3 (by decide)).trans ((W3_arr m ρ c 3).trans (AttnReg1.final (V2 m ρ) c σ _ rfl ?_))
    intro b h t s
    rw [← hσ b h t s]
    refine Finset.sum_congr rfl fun d _ => ?_
    rw [v2_apply, v2_apply]
    have e1 : (⟨(⟨h.val, by omega⟩ : Fin 48).val * 128 + d.val, by dsimp only; omega⟩ : Fin 6144) = qcol h d := by
      unfold qcol; ext; dsimp only
    have e2 : (⟨(⟨16 + h.val, by omega⟩ : Fin 48).val * 128 + d.val, by dsimp only; omega⟩ : Fin 6144) = kcol h d := by
      unfold kcol; ext; dsimp only; omega
    rw [e1, e2]
  rw [v6_apply, h5, hW, h3]
  show AttnReg2.val _ _ _ b t n = _
  unfold AttnReg2.val outAt
  rw [v4_apply]
  congr 1
  refine Finset.sum_congr rfl fun x _ => ?_
  rw [AttnReg1.G_apply σ _ _ b ⟨x.val / 128, by omega⟩ t ⟨x.val % 128, by omega⟩ rfl (by show x.val = x.val / 128 * 128 + x.val % 128; omega)]
  congr 2
  funext s
  rw [v2_apply]
  congr 1
  unfold vcol; ext; dsimp only; omega

end Cert.AttnKer

end
-- ==== Proof.Ref.lean ====
module

public import proofs.«01_k».proof.Proof.Gen.ReferenceIdeal.Run
public import proofs.«01_k».proof.Proof.Spec
public import Idealize.ShloMosaic.Lib.KernelVsHost
public import proofs.«01_k».proof.Proof.Consts

@[expose] public section

set_option maxRecDepth 16384

noncomputable section

namespace Cert.AttnRef

open Cert.ReferenceIdeal Cert.ReferenceIdeal.Gen Idealize.ShloMosaic Idealize.ShloMosaic.TcCoe
open Cert.AttnSpec

/-! The reference's operations, grouped into the steps of attention, each read at one index. -/

/-- Queries, keys and values in one array. -/
def proj (X : FVec Ideal S2x2048x2048 .f32) (W : FVec Ideal S2048x6144 .f32) (w : FVec Ideal S6144 .f32) : FVec Ideal S2x2048x6144 .f32 :=
  addf (Host.dotGeneral dot_S2x2048x2048_S2048x6144_S2x2048x6144_2_0_01_1_n_n none X W)
    (broadcastInDim S2x2048x6144 ![0, 1, 2] bcast_S1x1x6144_S2x2048x6144_0_1_2 (broadcastInDim S1x1x6144 ![2] bcast_S6144_S1x1x6144_2 w))

/-- The projection at an index: a row of the input against a column, plus the bias. -/
theorem proj_apply (X : FVec Ideal S2x2048x2048 .f32) (W : FVec Ideal S2048x6144 .f32) (w : FVec Ideal S6144 .f32)
    (b : Fin 2) (t : Fin 2048) (n : Fin 6144) : proj X W w (ix3 b t n) = qkvAt X W w b t n := by
  pointwise [proj, qkvAt]

/-- The queries, head by head. -/
def qs (P : FVec Ideal S2x2048x6144 .f32) : FVec Ideal S2x16x2048x128 .f32 :=
  transpose S2x16x2048x128 [0, 2, 1, 3] (shapeCast _ (extractStridedSlice S2x2048x2048 ![0, 0, 0] P slices_S2x2048x6144_S2x2048x2048_0_0_0) shapeCasts_S2x2048x2048_S2x2048x16x128) transposes_S2x2048x16x128_S2x16x2048x128_0_2_1_3

/-- The keys, head by head. -/
def ks (P : FVec Ideal S2x2048x6144 .f32) : FVec Ideal S2x16x2048x128 .f32 :=
  transpose S2x16x2048x128 [0, 2, 1, 3] (shapeCast _ (extractStridedSlice S2x2048x2048 ![0, 0, 2048] P slices_S2x2048x6144_S2x2048x2048_0_0_2048) shapeCasts_S2x2048x2048_S2x2048x16x128) transposes_S2x2048x16x128_S2x16x2048x128_0_2_1_3

/-- The values, head by head. -/
def vs (P : FVec Ideal S2x2048x6144 .f32) : FVec Ideal S2x16x2048x128 .f32 :=
  transpose S2x16x2048x128 [0, 2, 1, 3] (shapeCast _ (extractStridedSlice S2x2048x2048 ![0, 0, 4096] P slices_S2x2048x6144_S2x2048x2048_0_0_4096) shapeCasts_S2x2048x2048_S2x2048x16x128) transposes_S2x2048x16x128_S2x16x2048x128_0_2_1_3

/-- Queries: the first third of the columns, 128 to a head. -/
theorem qs_apply (P : FVec Ideal S2x2048x6144 .f32) (b : Fin 2) (h : Fin 16) (t : Fin 2048) (d : Fin 128) :
    qs P (ix4 b h t d) = P (ix3 b t (qcol h d)) := by
  pointwise [qs, qcol]

/-- Keys: the second third of the columns. -/
theorem ks_apply (P : FVec Ideal S2x2048x6144 .f32) (b : Fin 2) (h : Fin 16) (t : Fin 2048) (d : Fin 128) :
    ks P (ix4 b h t d) = P (ix3 b t (kcol h d)) := by
  pointwise [ks, kcol]

/-- Values: the last third of the columns. -/
theorem vs_apply (P : FVec Ideal S2x2048x6144 .f32) (b : Fin 2) (h : Fin 16) (t : Fin 2048) (d : Fin 128) :
    vs P (ix4 b h t d) = P (ix3 b t (vcol h d)) := by
  pointwise [vs, vcol]

/-- The scores, masked past the diagonal. -/
def sc (q k : FVec Ideal S2x16x2048x128 .f32) : FVec Ideal S2x16x2048x2048 .f32 :=
  select (broadcastInDim S2x16x2048x2048 ![0, 1, 2, 3] bcast_S1x1x2048x2048_S2x16x2048x2048_0_1_2_3 (broadcastInDim S1x1x2048x2048 ![2, 3] bcast_S2048x2048_S1x1x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1)))))
    (Host.divf (Host.dotGeneral dot_S2x16x2048x128_S2x16x2048x128_S2x16x2048x2048_3_3_2_2_01_01 none q k) (broadcastInDim S2x16x2048x2048 ![] bcast_S_S2x16x2048x2048 (Host.sqrt (constant S_ .f32 0x43000000#32))))
    (broadcastInDim S2x16x2048x2048 ![] bcast_S_S2x16x2048x2048 (constant S_ .f32 0xFF800000#32))

/-- A score at an index: the divided product up to the diagonal, the least value past it. -/
theorem sc_apply (q k : FVec Ideal S2x16x2048x128 .f32) (b : Fin 2) (h : Fin 16) (t s : Fin 2048) :
    sc q k (ix4 b h t s) = if s ≤ t then Ideal.div (∑ d, q (ix4 b h t d) * k (ix4 b h s d)) ((Real.sqrt 128 : ℝ) : EReal) else ⊥ := by
  pointwise [sc]
  rw [AttnConsts.select_sge le_rfl, AttnConsts.sqrt_128, AttnConsts.pat_bot]

/-- Each row's largest score. -/
def mx (S : FVec Ideal S2x16x2048x2048 .f32) : FVec Ideal S2x16x2048 .f32 :=
  maximumf (broadcastInDim S2x16x2048 ![] bcast_S_S2x16x2048 (constant S_ .f32 0xFF800000#32)) (Host.reduce FloatOps.maximumf S (constant S_ .f32 0xFF800000#32) reducesTo_S2x16x2048x2048_S2x16x2048_d3 h_S_)

/-- A row's maximum in the kernel's spelling, as a fold over the row. -/
theorem red_apply (S : FVec Ideal S2x16x2048x2048 .f32) (b : Fin 2) (h : Fin 16) (t : Fin 2048) :
    multiReduction (F := Ideal) (φ := .f32) .maximumf [3] S2x16x2048 S 0xFF800000#32 (by decide) (.inl rfl) rfl (ix3 b h t)
      = Finset.fold max (Ideal.ofBits .f32 0xFF800000#32) (fun s : Fin 2048 => S (ix4 b h t s)) Finset.univ := by
  pointwise

/-- The least value broadcast is that value everywhere. -/
theorem bot_apply (b : Fin 2) (h : Fin 16) (t : Fin 2048) :
    broadcastInDim S2x16x2048 ![] bcast_S_S2x16x2048 (constant (F := Ideal) S_ .f32 0xFF800000#32) (ix3 b h t) = (⊥ : EReal) := by
  pointwise
  exact AttnConsts.pat_bot

/-- The largest score of a row, as a fold over the row. -/
theorem mx_apply (S : FVec Ideal S2x16x2048x2048 .f32) (b : Fin 2) (h : Fin 16) (t : Fin 2048) :
    mx S (ix3 b h t) = Finset.fold max ⊥ (fun s : Fin 2048 => S (ix4 b h t s)) Finset.univ := by
  have e := Idealize.ShloMosaic.hostReduce_maximumf_eq_multiReduction (F := Ideal) S 0xFF800000#32 reducesTo_S2x16x2048x2048_S2x16x2048_d3 h_S_ (by decide) (.inl rfl) rfl
  unfold mx
  rw [e, maximumf, red_apply, bot_apply, AttnConsts.pat_bot]
  generalize Finset.fold max ⊥ (fun s : Fin 2048 => S (ix4 b h t s)) Finset.univ = z
  exact max_eq_right bot_le

/-- The exponentials of the scores less the row's largest. -/
def ex (S : FVec Ideal S2x16x2048x2048 .f32) : FVec Ideal S2x16x2048x2048 .f32 :=
  Host.exp (subf S (broadcastInDim S2x16x2048x2048 ![0, 1, 2, 3] bcast_S2x16x2048x1_S2x16x2048x2048_0_1_2_3 (broadcastInDim S2x16x2048x1 ![0, 1, 2] bcast_S2x16x2048_S2x16x2048x1_0_1_2 (mx S))))

/-- An exponential at an index. -/
theorem ex_apply (S : FVec Ideal S2x16x2048x2048 .f32) (b : Fin 2) (h : Fin 16) (t s : Fin 2048) :
    ex S (ix4 b h t s) = Ideal.exp (S (ix4 b h t s) - mx S (ix3 b h t)) := by
  pointwise [ex]

/-- The weights: each exponential over its row's sum. -/
def wt (E : FVec Ideal S2x16x2048x2048 .f32) : FVec Ideal S2x16x2048x2048 .f32 :=
  Host.divf E (broadcastInDim S2x16x2048x2048 ![0, 1, 2, 3] bcast_S2x16x2048x1_S2x16x2048x2048_0_1_2_3 (broadcastInDim S2x16x2048x1 ![0, 1, 2] bcast_S2x16x2048_S2x16x2048x1_0_1_2 (Host.reduceAdd E (constant S_ .f32 0x00000000#32) reducesTo_S2x16x2048x2048_S2x16x2048_d3 h_S_)))

/-- A weight at an index. -/
theorem wt_apply (E : FVec Ideal S2x16x2048x2048 .f32) (b : Fin 2) (h : Fin 16) (t s : Fin 2048) :
    wt E (ix4 b h t s) = Ideal.div (E (ix4 b h t s)) (∑ s', E (ix4 b h t s')) := by
  pointwise [wt]

/-- The weighted sums of the values. -/
def av (P : FVec Ideal S2x16x2048x2048 .f32) (v : FVec Ideal S2x16x2048x128 .f32) : FVec Ideal S2x16x2048x128 .f32 :=
  Host.dotGeneral dot_S2x16x2048x2048_S2x16x2048x128_S2x16x2048x128_3_2_2_3_01_01 none P v

/-- A weighted sum at an index. -/
theorem av_apply (P : FVec Ideal S2x16x2048x2048 .f32) (v : FVec Ideal S2x16x2048x128 .f32) (b : Fin 2) (h : Fin 16) (t : Fin 2048) (d : Fin 128) :
    av P v (ix4 b h t d) = ∑ s : Fin 2048, P (ix4 b h t s) * v (ix4 b h s d) := by
  pointwise [av]

/-- The heads side by side, through the output weights. -/
def out (Y : FVec Ideal S2x16x2048x128 .f32) (W : FVec Ideal S2048x2048 .f32) (w : FVec Ideal S2048 .f32) : FVec Ideal S2x2048x2048 .f32 :=
  addf (Host.dotGeneral dot_S2x2048x2048_S2048x2048_S2x2048x2048_2_0_01_1_n_n none (shapeCast _ (transpose S2x2048x16x128 [0, 2, 1, 3] Y transposes_S2x16x2048x128_S2x2048x16x128_0_2_1_3) shapeCasts_S2x2048x16x128_S2x2048x2048) W)
    (broadcastInDim S2x2048x2048 ![0, 1, 2] bcast_S1x1x2048_S2x2048x2048_0_1_2 (broadcastInDim S1x1x2048 ![2] bcast_S2048_S1x1x2048_2 w))

/-- The output projection at an index. -/
theorem out_apply (Y : FVec Ideal S2x16x2048x128 .f32) (W : FVec Ideal S2048x2048 .f32) (w : FVec Ideal S2048 .f32) (b : Fin 2) (t n : Fin 2048) :
    out Y W w (ix3 b t n) = outAt (fun b h t d => Y (ix4 b h t d)) W w b t n := by
  pointwise [out, outAt]

/-- The whole reference out of its steps. -/
def whole (X : FVec Ideal S2x2048x2048 .f32) (W : FVec Ideal S2048x6144 .f32) (w : FVec Ideal S6144 .f32) (Wo : FVec Ideal S2048x2048 .f32) (wo : FVec Ideal S2048 .f32) : FVec Ideal S2x2048x2048 .f32 :=
  out (av (wt (ex (sc (qs (proj X W w)) (ks (proj X W w))))) (vs (proj X W w))) Wo wo

/-- The reference's result is that composition of its arguments. -/
theorem res_eq (m : (ℓ : Loc nD τ sig) → Buf (Elt Ideal) ℓ) (c : Dev nD) :
    Value.res_main_v38 m c = whole (m ((c : Thread nD τ).loc main_arg0)) (m ((c : Thread nD τ).loc main_arg1)) (m ((c : Thread nD τ).loc main_arg2)) (m ((c : Thread nD τ).loc main_arg3)) (m ((c : Thread nD τ).loc main_arg4)) := by
  unfold Value.res_main_v38 whole out av wt ex mx sc qs ks vs proj
  rfl

end Cert.AttnRef

end
-- ==== Proof.Scores.lean ====
module

public import proofs.«01_k».proof.Proof.Spec
public import proofs.«01_k».proof.Proof.Consts
public import proofs.«01_k».proof.Proof.Softmax

@[expose] public section

noncomputable section

namespace Cert.AttnScores

open Idealize.ShloMosaic
open Cert.AttnSpec Cert.AttnSoftmax

/-- A sum of products plus a term is real when all of its parts are. -/
theorem real_affine {n : ℕ} (x y : Fin n → EReal) (z : EReal) (hx : ∀ k, ∃ r : ℝ, x k = r) (hy : ∀ k, ∃ r : ℝ, y k = r) (hz : ∃ r : ℝ, z = r) :
    ∃ r : ℝ, ∑ k, x k * y k + z = r := by
  choose a ha using hx
  choose b hb using hy
  obtain ⟨c, rfl⟩ := hz
  refine ⟨∑ k, a k * b k + c, ?_⟩
  simp only [ha, hb, ← EReal.coe_mul]
  rw [← coe_sum, ← EReal.coe_add]

/-- Where the queries and the keys are real, the scores are: the kernel's scaled product is the score in base two,
    and the reference's divided product is the score. -/
theorem scores (P : Fin 2 → Fin 2048 → Fin 6144 → EReal) (hP : ∀ b t n, n.val < 4096 → ∃ r : ℝ, P b t n = r) :
    ∃ σ : Fin 2 → Fin 16 → Fin 2048 → Fin 2048 → ℝ,
      (∀ b h t s, ∑ d, P b t (qcol h d) * (AttnConsts.scale : EReal) * P b s (kcol h d) = ((σ b h t s * (Real.log 2)⁻¹ : ℝ) : EReal))
      ∧ ∀ b h t s, Ideal.div (∑ d, P b t (qcol h d) * P b s (kcol h d)) ((Real.sqrt 128 : ℝ) : EReal) = (σ b h t s : EReal) := by
  choose p hp using hP
  have hq : ∀ (h : Fin 16) (d : Fin 128), (qcol h d).val < 4096 := fun h d => by unfold qcol; dsimp only; omega
  have hk : ∀ (h : Fin 16) (d : Fin 128), (kcol h d).val < 4096 := fun h d => by unfold kcol; dsimp only; omega
  have h0 : (Real.sqrt 128 : ℝ) ≠ 0 := (Real.sqrt_pos.mpr (by norm_num)).ne'
  refine ⟨fun b h t s => (∑ d, p b t (qcol h d) (hq h d) * p b s (kcol h d) (hk h d)) * (Real.sqrt 128)⁻¹, fun b h t s => ?_, fun b h t s => ?_⟩
  · simp only [hp b _ _ (hq h _), hp b _ _ (hk h _), ← EReal.coe_mul]
    rw [← coe_sum]
    congr 1
    simp only [AttnConsts.scale, Finset.sum_mul]
    exact Finset.sum_congr rfl fun d _ => by ring
  · simp only [hp b _ _ (hq h _), hp b _ _ (hk h _), ← EReal.coe_mul]
    rw [← coe_sum, Ideal.div_coe h0, one_div, ← EReal.coe_mul]

end Cert.AttnScores

end
-- ==== Proof.Pre.lean ====
module

public import proofs.«01_k».proof.Pre_finite_scores
public import proofs.«01_k».proof.Proof.Consts
public import Idealize.ShloMosaic.Lib.ReduceAll
public import proofs.«01_k».proof.Proof.Spec
public import Idealize.ShloMosaic.Lib.Decide

@[expose] public section

noncomputable section

namespace Cert.AttnPre

open Cert.Pre_finite_scores Idealize.ShloMosaic

/-- The shape relations the precondition takes. -/
theorem facts : Cert.Pre_finite_scores.Facts where
  bcast_S_S2x2048x2048 := by decide
  reducesTo_S2x2048x2048_S_d0_1_2 := by decide
  h_S_ := by decide
  slices_S2048x6144_S2048x4096_0_0 := by decide
  bcast_S_S2048x4096 := by decide
  reducesTo_S2048x4096_S_d0_1 := by decide
  slices_S6144_S4096_0 := by decide
  bcast_S_S4096 := by decide
  reducesTo_S4096_S_d0 := by decide

/-- A number whose absolute value is below plus infinity is real. -/
theorem real_of_lt (x : EReal) (h : Ideal.cmp .olt (max x (-x)) (Ideal.ofBits .f32 0x7F800000#32) = 1#1) : ∃ r : ℝ, x = r := by
  rw [AttnConsts.pat_top] at h
  have h' : max x (-x) < ⊤ := by
    by_contra hc
    simp [Ideal.cmp, hc] at h
  induction x with
  | bot => simp at h'
  | coe r => exact ⟨r, rfl⟩
  | top => simp at h'

/-- The empty shape has one index. -/
theorem one_index : Subsingleton S_.Idx := ⟨fun a b => funext fun k => k.elim0⟩

/-- The precondition, read: the input is real, and so are the columns of the weights and of the bias that make
    queries and keys. -/
theorem read [Cert.Pre_finite_scores.Facts] (X : FVec Ideal S2x2048x2048 .f32) (W : FVec Ideal S2048x6144 .f32) (w : FVec Ideal S6144 .f32)
    (Wo : FVec Ideal S2048x2048 .f32) (wo : FVec Ideal S2048 .f32) (h : fn (F := Ideal) X W w Wo wo = fun _ => 1#1) :
    (∀ b t k, ∃ r : ℝ, X (ix3 b t k) = r) ∧ (∀ (k : Fin 2048) (n : Fin 6144), n.val < 4096 → ∃ r : ℝ, W (ix2 k n) = r)
      ∧ ∀ n : Fin 6144, n.val < 4096 → ∃ r : ℝ, w (ix1 n) = r := by
  haveI := one_index
  have h1 := congrFun h (fun k => k.elim0)
  unfold fn at h1
  obtain ⟨h2, hw⟩ := IntOp.andi_eq_one.mp h1
  obtain ⟨hX, hW⟩ := IntOp.andi_eq_one.mp h2
  refine ⟨fun b t k => real_of_lt _ (Host.reduce_andi_all _ _ _ _ _ hX (ix3 b t k)), fun k n hn => ?_, fun n hn => ?_⟩
  · have e : (extractStridedSlice S2048x4096 ![0, 0] W Facts.slices_S2048x6144_S2048x4096_0_0) (ix2 k ⟨n.val, hn⟩) = W (ix2 k n) := by
      pointwise
    rw [← e]
    exact real_of_lt _ (Host.reduce_andi_all _ _ _ _ _ hW (ix2 k ⟨n.val, hn⟩))
  · have e : (extractStridedSlice S4096 ![0] w Facts.slices_S6144_S4096_0) (ix1 ⟨n.val, hn⟩) = w (ix1 n) := by
      pointwise
    rw [← e]
    exact real_of_lt _ (Host.reduce_andi_all _ _ _ _ _ hw (ix1 ⟨n.val, hn⟩))

end Cert.AttnPre

end
-- ==== Proof.Equal.lean ====
module

public import proofs.«01_k».proof.Proof.KerValue
public import proofs.«01_k».proof.Proof.Ref
public import proofs.«01_k».proof.Proof.Scores
public import proofs.«01_k».proof.Proof.Pre

@[expose] public section

set_option maxRecDepth 16384

noncomputable section

namespace Cert.AttnEqual

open Idealize.ShloMosaic Idealize.ShloMosaic.TcCoe
open Cert.AttnSpec Cert.AttnSoftmax

/-- The reference at an index, with the scores real: attention in real arithmetic, then the output projection. -/
theorem whole_apply (X : FVec Ideal Cert.ReferenceIdeal.S2x2048x2048 .f32) (W : FVec Ideal Cert.ReferenceIdeal.S2048x6144 .f32)
    (w : FVec Ideal Cert.ReferenceIdeal.S6144 .f32) (Wo : FVec Ideal Cert.ReferenceIdeal.S2048x2048 .f32) (wo : FVec Ideal Cert.ReferenceIdeal.S2048 .f32)
    (σ : Fin 2 → Fin 16 → Fin 2048 → Fin 2048 → ℝ)
    (hσ : ∀ b h t s, Ideal.div (∑ d, qkvAt X W w b t (qcol h d) * qkvAt X W w b s (kcol h d)) ((Real.sqrt 128 : ℝ) : EReal) = (σ b h t s : EReal))
    (b : Fin 2) (t n : Fin 2048) :
    AttnRef.whole X W w Wo wo (ix3 b t n)
      = outAt (fun b h t d => AttnAtt.row (σ b h t) t (fun s => qkvAt X W w b s (vcol h d))) Wo wo b t n := by
  unfold AttnRef.whole
  rw [AttnRef.out_apply]
  congr 1
  funext b h t d
  have hs : ∀ s, AttnRef.sc (AttnRef.qs (AttnRef.proj X W w)) (AttnRef.ks (AttnRef.proj X W w)) (ix4 b h t s) = masked (σ b h t) t s := by
    intro s
    rw [AttnRef.sc_apply]
    simp only [AttnRef.qs_apply, AttnRef.ks_apply, AttnRef.proj_apply, hσ]
    rfl
  rw [AttnRef.av_apply]
  unfold AttnAtt.row refRow
  refine Finset.sum_congr rfl fun s _ => ?_
  simp only [AttnRef.wt_apply, AttnRef.ex_apply, AttnRef.mx_apply, hs, AttnRef.vs_apply, AttnRef.proj_apply]

/-- Under the precondition the kernel's result is the reference's function of the same arguments. -/
theorem equal [Cert.Pre_finite_scores.Facts]
    (m : (ℓ : Loc Cert.KernelIdeal.nD Cert.KernelIdeal.τ Cert.KernelIdeal.sig) → Buf (Elt Ideal) ℓ) (ρ : Dev Cert.KernelIdeal.nD → PrngReg)
    (c : Dev Cert.KernelIdeal.nD)
    (hpre : Cert.Pre_finite_scores.fn (F := Ideal) (AttnKer.X m c) (AttnKer.Wa m c) (AttnKer.ba m c) (AttnKer.Wo m c) (AttnKer.bo m c) = fun _ => 1#1) :
    Cert.KernelIdeal.Gen.W6 m ρ c (Proc.devRef .tc Cert.KernelIdeal.main_v6)
      = AttnRef.whole (AttnKer.X m c) (AttnKer.Wa m c) (AttnKer.ba m c) (AttnKer.Wo m c) (AttnKer.bo m c) := by
  obtain ⟨hX, hW, hw⟩ := AttnPre.read _ _ _ _ _ hpre
  obtain ⟨σ, h1, h2⟩ := AttnScores.scores (qkvAt (AttnKer.X m c) (AttnKer.Wa m c) (AttnKer.ba m c))
    fun b t n hn => AttnScores.real_affine _ _ _ (fun k => hX b t k) (fun k => hW k n hn) (hw n hn)
  have key : ∀ i : Cert.KernelIdeal.S2x2048x2048.Idx,
      (Cert.KernelIdeal.Gen.W6 m ρ c (Proc.devRef .tc Cert.KernelIdeal.main_v6) : FVec Ideal Cert.KernelIdeal.S2x2048x2048 .f32) i
        = AttnRef.whole (AttnKer.X m c) (AttnKer.Wa m c) (AttnKer.ba m c) (AttnKer.Wo m c) (AttnKer.bo m c) i := by
    intro i
    have e : i = ix3 (i 0) (i 1) (i 2) := by
      funext k; fin_cases k <;> rfl
    rw [e]
    exact (AttnKer.value m ρ c σ h1 (i 0) (i 1) (i 2)).trans (whole_apply _ _ _ _ _ σ h2 (i 0) (i 1) (i 2)).symm
  exact funext key

end Cert.AttnEqual

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and holds no semaphore. -/
theorem frame_ri : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- The two named constants are what the idealized kernel holds in place of the printed numbers. -/
theorem preserves : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "mask" .f32 0xF149F2CA#32 ⊥ rfl⟩

/-- Both programs run and end with the same result, the reference's function of the arguments. -/
theorem algebraic : Cert.algebraic_KernelIdeal_ReferenceIdeal_pre_finite_scores (hKernelIdeal := Cert.KernelIdeal.Gen.facts)
    (hReferenceIdeal := Cert.ReferenceIdeal.Gen.facts) (hPre_finite_scores := AttnPre.facts) := fun m g m' g' hpre hag => by
  haveI := AttnPre.facts
  refine ⟨fun c => AttnRef.whole (AttnKer.X m c) (AttnKer.Wa m c) (AttnKer.ba m c) (AttnKer.Wo m c) (AttnKer.bo m c), ?_, ?_⟩
  · refine (θ_run (Cert.KernelIdeal.defs (F := Ideal)) _ _).mono (fun r h c => ⟨(h c).1.trans ?_, (h c).2⟩) (AttnRun.run (F := Ideal) m g)
    exact AttnEqual.equal m g c (hpre c)
  · refine (θ_run (Cert.ReferenceIdeal.defs (F := Ideal)) _ _).mono (fun r h c => ⟨(h c).1.trans ?_, (h c).2⟩) (Cert.ReferenceIdeal.Value.run (F := Ideal) m' g')
    rw [AttnRef.res_eq m' c]
    obtain ⟨h0, h1, h2, h3, h4⟩ := hag c
    rw [h0, h1, h2, h3, h4]

/-- Everything claimed. -/
theorem claim : Cert.Claim :=
  ⟨Cert.Kernel.Gen.facts, Cert.KernelIdeal.Gen.facts, Cert.ReferenceIdeal.Gen.facts, AttnPre.facts,
    fun m g _ => Cert.Kernel.Gen.frame m g, fun m g _ => Cert.KernelIdeal.Gen.frame m g, fun m g _ => Cert.KernelIdeal.Gen.frame m g,
    frame_ri, fun m g _ => frame_ri m g trivial, preserves, algebraic⟩

end Cert.Proof

end
